-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)
      ∧ m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v8_0)) (v1 : (c : Dev Cert.GateUpIdeal.nD) → Buf (Elt Ideal) ((c.tc : Thread Cert.GateUpIdeal.nD Cert.GateUpIdeal.τ).loc Cert.GateUpIdeal.main_v8_1)) (v2 : (c : Dev Cert.GateUpIdeal.nD) → Buf (Elt Ideal) ((c.tc : Thread Cert.GateUpIdeal.nD Cert.GateUpIdeal.τ).loc Cert.GateUpIdeal.main_v8_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v8_0) = v0 c
          ∧ r.2.mem ((c.tc : Thread Cert.GateUpIdeal.nD Cert.GateUpIdeal.τ).loc Cert.GateUpIdeal.main_v8_1) = v1 c
          ∧ r.2.mem ((c.tc : Thread Cert.GateUpIdeal.nD Cert.GateUpIdeal.τ).loc Cert.GateUpIdeal.main_v8_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v97) = v0 c
          ∧ r.2.mem ((c.tc : Thread Cert.GateUpReferenceIdeal.nD Cert.GateUpReferenceIdeal.τ).loc Cert.GateUpReferenceIdeal.main_v117) = v1 c
          ∧ r.2.mem ((c.tc : Thread Cert.GateUpReferenceIdeal.nD Cert.GateUpReferenceIdeal.τ).loc Cert.GateUpReferenceIdeal.main_v110) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5)
          ∧ r.2.mem ((c.tc : Thread Cert.GateUpReferenceIdeal.nD Cert.GateUpReferenceIdeal.τ).loc Cert.GateUpReferenceIdeal.main_arg6) = m' ((c.tc : Thread Cert.GateUpReferenceIdeal.nD Cert.GateUpReferenceIdeal.τ).loc Cert.GateUpReferenceIdeal.main_arg6))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v45) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts),
    quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
-- ==== GateUp.lean ====
abbrev S_ : Shape := ⟨0, ![]⟩
abbrev S3x512x2560 : Shape := ⟨3, ![3, 512, 2560]⟩
abbrev S3x512 : Shape := ⟨2, ![3, 512]⟩
abbrev S2560x1728 : Shape := ⟨2, ![2560, 1728]⟩
abbrev S6912 : Shape := ⟨1, ![6912]⟩
abbrev S1728x2560 : Shape := ⟨2, ![1728, 2560]⟩
abbrev S1 : Shape := ⟨1, ![1]⟩
abbrev S2 : Shape := ⟨1, ![2]⟩
abbrev S1x6912 : Shape := ⟨2, ![1, 6912]⟩
abbrev S3x512x6912 : Shape := ⟨3, ![3, 512, 6912]⟩
abbrev S1x512x2560 : Shape := ⟨3, ![1, 512, 2560]⟩
abbrev S1x512x6912 : Shape := ⟨3, ![1, 512, 6912]⟩
abbrev S512x2560 : Shape := ⟨2, ![512, 2560]⟩
abbrev S27x512x256 : Shape := ⟨3, ![27, 512, 256]⟩
abbrev S512x128 : Shape := ⟨2, ![512, 128]⟩
abbrev S1x512 : Shape := ⟨2, ![1, 512]⟩
abbrev S128x512 : Shape := ⟨2, ![128, 512]⟩
abbrev S512x256 : Shape := ⟨2, ![512, 256]⟩
abbrev S32x2560 : Shape := ⟨2, ![32, 2560]⟩
abbrev S8x2560 : Shape := ⟨2, ![8, 2560]⟩
abbrev S256x2560 : Shape := ⟨2, ![256, 2560]⟩
abbrev S1x512x256 : Shape := ⟨3, ![1, 512, 256]⟩
abbrev S1x32x256 : Shape := ⟨3, ![1, 32, 256]⟩
abbrev S32x256 : Shape := ⟨2, ![32, 256]⟩
abbrev S32x6912 : Shape := ⟨2, ![32, 6912]⟩
abbrev S32 : Shape := ⟨1, ![32]⟩
abbrev S32x1 : Shape := ⟨2, ![32, 1]⟩
abbrev S1x32x6912 : Shape := ⟨3, ![1, 32, 6912]⟩
abbrev S32x128 : Shape := ⟨2, ![32, 128]⟩

abbrev nBuf : Space → Nat
  | .hbm => 18
  | .vmem => 14
  | .smem => 1
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S3x512x2560, .i8⟩
  | .hbm, ⟨3, _⟩ => ⟨S3x512, .f32⟩
  | .hbm, ⟨4, _⟩ => ⟨S2560x1728, .i8⟩
  | .hbm, ⟨5, _⟩ => ⟨S2560x1728, .i8⟩
  | .hbm, ⟨6, _⟩ => ⟨S6912, .f32⟩
  | .hbm, ⟨7, _⟩ => ⟨S1728x2560, .i8⟩
  | .hbm, ⟨8, _⟩ => ⟨S1728x2560, .i8⟩
  | .hbm, ⟨9, _⟩ => ⟨S1, .f32⟩
  | .hbm, ⟨10, _⟩ => ⟨S1, .f32⟩
  | .hbm, ⟨11, _⟩ => ⟨S2, .f32⟩
  | .hbm, ⟨12, _⟩ => ⟨S1728x2560, .i8⟩
  | .hbm, ⟨13, _⟩ => ⟨S1728x2560, .i8⟩
  | .hbm, ⟨14, _⟩ => ⟨S1x6912, .f32⟩
  | .hbm, ⟨15, _⟩ => ⟨S3x512, .f32⟩
  | .hbm, ⟨16, _⟩ => ⟨S3x512x6912, .i8⟩
  | .hbm, ⟨17, _⟩ => ⟨S3x512, .f32⟩
  | .local _ .vmem, ⟨0, _⟩ => ⟨S1x512x2560, .i8⟩
  | .local _ .vmem, ⟨1, _⟩ => ⟨S1x512x2560, .i8⟩
  | .local _ .vmem, ⟨2, _⟩ => ⟨S3x512, .f32⟩
  | .local _ .vmem, ⟨3, _⟩ => ⟨S1728x2560, .i8⟩
  | .local _ .vmem, ⟨4, _⟩ => ⟨S1728x2560, .i8⟩
  | .local _ .vmem, ⟨5, _⟩ => ⟨S1x6912, .f32⟩
  | .local _ .vmem, ⟨6, _⟩ => ⟨S3x512, .f32⟩
  | .local _ .vmem, ⟨7, _⟩ => ⟨S1x512x6912, .i8⟩
  | .local _ .vmem, ⟨8, _⟩ => ⟨S1x512x6912, .i8⟩
  | .local _ .vmem, ⟨9, _⟩ => ⟨S3x512, .f32⟩
  | .local _ .vmem, ⟨10, _⟩ => ⟨S512x2560, .bf16⟩
  | .local _ .vmem, ⟨11, _⟩ => ⟨S27x512x256, .f32⟩
  | .local _ .vmem, ⟨12, _⟩ => ⟨S512x128, .f32⟩
  | .local _ .vmem, ⟨13, _⟩ => ⟨S512x128, .f32⟩
  | .local _ .smem, ⟨0, _⟩ => ⟨S2, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![3], ![false]⟩

def k0_off1 (i : grid0.Coords) : Fin 2 → Nat :=
  let arg0 : BitVec 32 := BitVec.ofNat 32 (i 0).val
  let v6 : Index := Scalar.indexCast arg0
  let c0_4 : Index := 0#32
  ![v6.toNat, 0]
@[reducible] def k0_t1_loop : Scf.Loop 32 :=
  let c0_i32 : BitVec 32 := 0#32
  let c27_i32 : BitVec 32 := 27#32
  let v12 : BitVec 32 := Scalar.addi c0_i32 c27_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32 : BitVec 32 := 8#32
  let v25 : BitVec 32 := Scalar.muli arg14 c8_i32
  let c0_i32_17 : BitVec 32 := 0#32
  let v26 : BitVec 32 := Scalar.addi v25 c0_i32_17
  let c0_i32_18 : BitVec 32 := 0#32
  let v28 : BitVec 1 := Scalar.cmpi .sgt v26 c0_i32_18
  let v29 : BitVec 32 := Scalar.extui v28
  let c0_i32_19 : BitVec 32 := 0#32
  let v30 : BitVec 1 := Scalar.cmpi .slt v26 c0_i32_19
  let v31 : BitVec 32 := Scalar.extui v30
  let v32 : BitVec 32 := Scalar.subi v29 v31
  let c54_i32 : BitVec 32 := 54#32
  let c0_i32_20 : BitVec 32 := 0#32
  let v33 : BitVec 1 := Scalar.cmpi .sgt c54_i32 c0_i32_20
  let v34 : BitVec 32 := Scalar.extui v33
  let c0_i32_21 : BitVec 32 := 0#32
  let v35 : BitVec 1 := Scalar.cmpi .slt c54_i32 c0_i32_21
  let v36 : BitVec 32 := Scalar.extui v35
  let v37 : BitVec 32 := Scalar.subi v34 v36
  let v38 : BitVec 1 := Scalar.cmpi .ne v32 v37
  let v39 : BitVec 32 := Scalar.remsi v26 c54_i32
  let c0_i32_22 : BitVec 32 := 0#32
  let v40 : BitVec 1 := Scalar.cmpi .ne v39 c0_i32_22
  let v41 : BitVec 1 := Scalar.andi v38 v40
  let v27 : BitVec 32 := Scalar.divsi v26 c54_i32
  let c1_i32_23 : BitVec 32 := 1#32
  let v42 : BitVec 32 := Scalar.subi v27 c1_i32_23
  let v43 : BitVec 32 := Scalar.select v41 v42 v27
  let c54_i32_24 : BitVec 32 := 54#32
  let v44 : BitVec 32 := Scalar.muli v43 c54_i32_24
  let v45 : BitVec 32 := Scalar.subi v26 v44
  let c32_i32 : BitVec 32 := 32#32
  let v46 : BitVec 32 := Scalar.muli v45 c32_i32
  v46
def k0_off2 (k0_t1 : Fin k0_t1_loop.trips) (c0_i32_17 : BitVec 32) : Fin 2 → Nat :=
  let c0_i32 : BitVec 32 := 0#32
  let c1_i32 : BitVec 32 := 1#32
  let arg14 : BitVec 32 := Scf.iv c0_i32 c1_i32 k0_t1
  let c8_i32 : BitVec 32 := 8#32
  let v25 : BitVec 32 := Scalar.muli arg14 c8_i32
  let v26 : BitVec 32 := Scalar.addi v25 c0_i32_17
  let c0_i32_18 : BitVec 32 := 0#32
  let v28 : BitVec 1 := Scalar.cmpi .sgt v26 c0_i32_18
  let v29 : BitVec 32 := Scalar.extui v28
  let c0_i32_19 : BitVec 32 := 0#32
  let v30 : BitVec 1 := Scalar.cmpi .slt v26 c0_i32_19
  let v31 : BitVec 32 := Scalar.extui v30
  let v32 : BitVec 32 := Scalar.subi v29 v31
  let c54_i32 : BitVec 32 := 54#32
  let c0_i32_20 : BitVec 32 := 0#32
  let v33 : BitVec 1 := Scalar.cmpi .sgt c54_i32 c0_i32_20
  let v34 : BitVec 32 := Scalar.extui v33
  let c0_i32_21 : BitVec 32 := 0#32
  let v35 : BitVec 1 := Scalar.cmpi .slt c54_i32 c0_i32_21
  let v36 : BitVec 32 := Scalar.extui v35
  let v37 : BitVec 32 := Scalar.subi v34 v36
  let v38 : BitVec 1 := Scalar.cmpi .ne v32 v37
  let v39 : BitVec 32 := Scalar.remsi v26 c54_i32
  let c0_i32_22 : BitVec 32 := 0#32
  let v40 : BitVec 1 := Scalar.cmpi .ne v39 c0_i32_22
  let v41 : BitVec 1 := Scalar.andi v38 v40
  let v27 : BitVec 32 := Scalar.divsi v26 c54_i32
  let c1_i32_23 : BitVec 32 := 1#32
  let v42 : BitVec 32 := Scalar.subi v27 c1_i32_23
  let v43 : BitVec 32 := Scalar.select v41 v42 v27
  let c54_i32_24 : BitVec 32 := 54#32
  let v44 : BitVec 32 := Scalar.muli v43 c54_i32_24
  let v45 : BitVec 32 := Scalar.subi v26 v44
  let c32_i32 : BitVec 32 := 32#32
  let v46 : BitVec 32 := Scalar.muli v45 c32_i32
  let v47 : BitVec 32 := v46
  let v48 : Index := Scalar.indexCast v47
  let c0_25 : Index := 0#32
  ![v48.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_26 : BitVec 32 := 8#32
  let v61 : BitVec 32 := Scalar.muli arg14 c8_i32_26
  let c1_i32_27 : BitVec 32 := 1#32
  let v62 : BitVec 32 := Scalar.addi v61 c1_i32_27
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c54_i32_28 : BitVec 32 := 54#32
  let c0_i32_31 : BitVec 32 := 0#32
  let v69 : BitVec 1 := Scalar.cmpi .sgt c54_i32_28 c0_i32_31
  let v70 : BitVec 32 := Scalar.extui v69
  let c0_i32_32 : BitVec 32 := 0#32
  let v71 : BitVec 1 := Scalar.cmpi .slt c54_i32_28 c0_i32_32
  let v72 : BitVec 32 := Scalar.extui v71
  let v73 : BitVec 32 := Scalar.subi v70 v72
  let v74 : BitVec 1 := Scalar.cmpi .ne v68 v73
  let v75 : BitVec 32 := Scalar.remsi v62 c54_i32_28
  let c0_i32_33 : BitVec 32 := 0#32
  let v76 : BitVec 1 := Scalar.cmpi .ne v75 c0_i32_33
  let v77 : BitVec 1 := Scalar.andi v74 v76
  let v63 : BitVec 32 := Scalar.divsi v62 c54_i32_28
  let c1_i32_34 : BitVec 32 := 1#32
  let v78 : BitVec 32 := Scalar.subi v63 c1_i32_34
  let v79 : BitVec 32 := Scalar.select v77 v78 v63
  let c54_i32_35 : BitVec 32 := 54#32
  let v80 : BitVec 32 := Scalar.muli v79 c54_i32_35
  let v81 : BitVec 32 := Scalar.subi v62 v80
  let c32_i32_36 : BitVec 32 := 32#32
  let v82 : BitVec 32 := Scalar.muli v81 c32_i32_36
  v82
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_41 : BitVec 32 := 8#32
  let v97 : BitVec 32 := Scalar.muli arg14 c8_i32_41
  let c2_i32_42 : BitVec 32 := 2#32
  let v98 : BitVec 32 := Scalar.addi v97 c2_i32_42
  let c0_i32_44 : BitVec 32 := 0#32
  let v100 : BitVec 1 := Scalar.cmpi .sgt v98 c0_i32_44
  let v101 : BitVec 32 := Scalar.extui v100
  let c0_i32_45 : BitVec 32 := 0#32
  let v102 : BitVec 1 := Scalar.cmpi .slt v98 c0_i32_45
  let v103 : BitVec 32 := Scalar.extui v102
  let v104 : BitVec 32 := Scalar.subi v101 v103
  let c54_i32_43 : BitVec 32 := 54#32
  let c0_i32_46 : BitVec 32 := 0#32
  let v105 : BitVec 1 := Scalar.cmpi .sgt c54_i32_43 c0_i32_46
  let v106 : BitVec 32 := Scalar.extui v105
  let c0_i32_47 : BitVec 32 := 0#32
  let v107 : BitVec 1 := Scalar.cmpi .slt c54_i32_43 c0_i32_47
  let v108 : BitVec 32 := Scalar.extui v107
  let v109 : BitVec 32 := Scalar.subi v106 v108
  let v110 : BitVec 1 := Scalar.cmpi .ne v104 v109
  let v111 : BitVec 32 := Scalar.remsi v98 c54_i32_43
  let c0_i32_48 : BitVec 32 := 0#32
  let v112 : BitVec 1 := Scalar.cmpi .ne v111 c0_i32_48
  let v113 : BitVec 1 := Scalar.andi v110 v112
  let v99 : BitVec 32 := Scalar.divsi v98 c54_i32_43
  let c1_i32_49 : BitVec 32 := 1#32
  let v114 : BitVec 32 := Scalar.subi v99 c1_i32_49
  let v115 : BitVec 32 := Scalar.select v113 v114 v99
  let c54_i32_50 : BitVec 32 := 54#32
  let v116 : BitVec 32 := Scalar.muli v115 c54_i32_50
  let v117 : BitVec 32 := Scalar.subi v98 v116
  let c32_i32_51 : BitVec 32 := 32#32
  let v118 : BitVec 32 := Scalar.muli v117 c32_i32_51
  v118
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_56 : BitVec 32 := 8#32
  let v133 : BitVec 32 := Scalar.muli arg14 c8_i32_56
  let c3_i32 : BitVec 32 := 3#32
  let v134 : BitVec 32 := Scalar.addi v133 c3_i32
  let c0_i32_58 : BitVec 32 := 0#32
  let v136 : BitVec 1 := Scalar.cmpi .sgt v134 c0_i32_58
  let v137 : BitVec 32 := Scalar.extui v136
  let c0_i32_59 : BitVec 32 := 0#32
  let v138 : BitVec 1 := Scalar.cmpi .slt v134 c0_i32_59
  let v139 : BitVec 32 := Scalar.extui v138
  let v140 : BitVec 32 := Scalar.subi v137 v139
  let c54_i32_57 : BitVec 32 := 54#32
  let c0_i32_60 : BitVec 32 := 0#32
  let v141 : BitVec 1 := Scalar.cmpi .sgt c54_i32_57 c0_i32_60
  let v142 : BitVec 32 := Scalar.extui v141
  let c0_i32_61 : BitVec 32 := 0#32
  let v143 : BitVec 1 := Scalar.cmpi .slt c54_i32_57 c0_i32_61
  let v144 : BitVec 32 := Scalar.extui v143
  let v145 : BitVec 32 := Scalar.subi v142 v144
  let v146 : BitVec 1 := Scalar.cmpi .ne v140 v145
  let v147 : BitVec 32 := Scalar.remsi v134 c54_i32_57
  let c0_i32_62 : BitVec 32 := 0#32
  let v148 : BitVec 1 := Scalar.cmpi .ne v147 c0_i32_62
  let v149 : BitVec 1 := Scalar.andi v146 v148
  let v135 : BitVec 32 := Scalar.divsi v134 c54_i32_57
  let c1_i32_63 : BitVec 32 := 1#32
  let v150 : BitVec 32 := Scalar.subi v135 c1_i32_63
  let v151 : BitVec 32 := Scalar.select v149 v150 v135
  let c54_i32_64 : BitVec 32 := 54#32
  let v152 : BitVec 32 := Scalar.muli v151 c54_i32_64
  let v153 : BitVec 32 := Scalar.subi v134 v152
  let c32_i32_65 : BitVec 32 := 32#32
  let v154 : BitVec 32 := Scalar.muli v153 c32_i32_65
  v154
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_70 : BitVec 32 := 8#32
  let v169 : BitVec 32 := Scalar.muli arg14 c8_i32_70
  let c4_i32 : BitVec 32 := 4#32
  let v170 : BitVec 32 := Scalar.addi v169 c4_i32
  let c0_i32_72 : BitVec 32 := 0#32
  let v172 : BitVec 1 := Scalar.cmpi .sgt v170 c0_i32_72
  let v173 : BitVec 32 := Scalar.extui v172
  let c0_i32_73 : BitVec 32 := 0#32
  let v174 : BitVec 1 := Scalar.cmpi .slt v170 c0_i32_73
  let v175 : BitVec 32 := Scalar.extui v174
  let v176 : BitVec 32 := Scalar.subi v173 v175
  let c54_i32_71 : BitVec 32 := 54#32
  let c0_i32_74 : BitVec 32 := 0#32
  let v177 : BitVec 1 := Scalar.cmpi .sgt c54_i32_71 c0_i32_74
  let v178 : BitVec 32 := Scalar.extui v177
  let c0_i32_75 : BitVec 32 := 0#32
  let v179 : BitVec 1 := Scalar.cmpi .slt c54_i32_71 c0_i32_75
  let v180 : BitVec 32 := Scalar.extui v179
  let v181 : BitVec 32 := Scalar.subi v178 v180
  let v182 : BitVec 1 := Scalar.cmpi .ne v176 v181
  let v183 : BitVec 32 := Scalar.remsi v170 c54_i32_71
  let c0_i32_76 : BitVec 32 := 0#32
  let v184 : BitVec 1 := Scalar.cmpi .ne v183 c0_i32_76
  let v185 : BitVec 1 := Scalar.andi v182 v184
  let v171 : BitVec 32 := Scalar.divsi v170 c54_i32_71
  let c1_i32_77 : BitVec 32 := 1#32
  let v186 : BitVec 32 := Scalar.subi v171 c1_i32_77
  let v187 : BitVec 32 := Scalar.select v185 v186 v171
  let c54_i32_78 : BitVec 32 := 54#32
  let v188 : BitVec 32 := Scalar.muli v187 c54_i32_78
  let v189 : BitVec 32 := Scalar.subi v170 v188
  let c32_i32_79 : BitVec 32 := 32#32
  let v190 : BitVec 32 := Scalar.muli v189 c32_i32_79
  v190
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_84 : BitVec 32 := 8#32
  let v205 : BitVec 32 := Scalar.muli arg14 c8_i32_84
  let c5_i32 : BitVec 32 := 5#32
  let v206 : BitVec 32 := Scalar.addi v205 c5_i32
  let c0_i32_86 : BitVec 32 := 0#32
  let v208 : BitVec 1 := Scalar.cmpi .sgt v206 c0_i32_86
  let v209 : BitVec 32 := Scalar.extui v208
  let c0_i32_87 : BitVec 32 := 0#32
  let v210 : BitVec 1 := Scalar.cmpi .slt v206 c0_i32_87
  let v211 : BitVec 32 := Scalar.extui v210
  let v212 : BitVec 32 := Scalar.subi v209 v211
  let c54_i32_85 : BitVec 32 := 54#32
  let c0_i32_88 : BitVec 32 := 0#32
  let v213 : BitVec 1 := Scalar.cmpi .sgt c54_i32_85 c0_i32_88
  let v214 : BitVec 32 := Scalar.extui v213
  let c0_i32_89 : BitVec 32 := 0#32
  let v215 : BitVec 1 := Scalar.cmpi .slt c54_i32_85 c0_i32_89
  let v216 : BitVec 32 := Scalar.extui v215
  let v217 : BitVec 32 := Scalar.subi v214 v216
  let v218 : BitVec 1 := Scalar.cmpi .ne v212 v217
  let v219 : BitVec 32 := Scalar.remsi v206 c54_i32_85
  let c0_i32_90 : BitVec 32 := 0#32
  let v220 : BitVec 1 := Scalar.cmpi .ne v219 c0_i32_90
  let v221 : BitVec 1 := Scalar.andi v218 v220
  let v207 : BitVec 32 := Scalar.divsi v206 c54_i32_85
  let c1_i32_91 : BitVec 32 := 1#32
  let v222 : BitVec 32 := Scalar.subi v207 c1_i32_91
  let v223 : BitVec 32 := Scalar.select v221 v222 v207
  let c54_i32_92 : BitVec 32 := 54#32
  let v224 : BitVec 32 := Scalar.muli v223 c54_i32_92
  let v225 : BitVec 32 := Scalar.subi v206 v224
  let c32_i32_93 : BitVec 32 := 32#32
  let v226 : BitVec 32 := Scalar.muli v225 c32_i32_93
  v226
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_98 : BitVec 32 := 8#32
  let v241 : BitVec 32 := Scalar.muli arg14 c8_i32_98
  let c6_i32 : BitVec 32 := 6#32
  let v242 : BitVec 32 := Scalar.addi v241 c6_i32
  let c0_i32_100 : BitVec 32 := 0#32
  let v244 : BitVec 1 := Scalar.cmpi .sgt v242 c0_i32_100
  let v245 : BitVec 32 := Scalar.extui v244
  let c0_i32_101 : BitVec 32 := 0#32
  let v246 : BitVec 1 := Scalar.cmpi .slt v242 c0_i32_101
  let v247 : BitVec 32 := Scalar.extui v246
  let v248 : BitVec 32 := Scalar.subi v245 v247
  let c54_i32_99 : BitVec 32 := 54#32
  let c0_i32_102 : BitVec 32 := 0#32
  let v249 : BitVec 1 := Scalar.cmpi .sgt c54_i32_99 c0_i32_102
  let v250 : BitVec 32 := Scalar.extui v249
  let c0_i32_103 : BitVec 32 := 0#32
  let v251 : BitVec 1 := Scalar.cmpi .slt c54_i32_99 c0_i32_103
  let v252 : BitVec 32 := Scalar.extui v251
  let v253 : BitVec 32 := Scalar.subi v250 v252
  let v254 : BitVec 1 := Scalar.cmpi .ne v248 v253
  let v255 : BitVec 32 := Scalar.remsi v242 c54_i32_99
  let c0_i32_104 : BitVec 32 := 0#32
  let v256 : BitVec 1 := Scalar.cmpi .ne v255 c0_i32_104
  let v257 : BitVec 1 := Scalar.andi v254 v256
  let v243 : BitVec 32 := Scalar.divsi v242 c54_i32_99
  let c1_i32_105 : BitVec 32 := 1#32
  let v258 : BitVec 32 := Scalar.subi v243 c1_i32_105
  let v259 : BitVec 32 := Scalar.select v257 v258 v243
  let c54_i32_106 : BitVec 32 := 54#32
  let v260 : BitVec 32 := Scalar.muli v259 c54_i32_106
  let v261 : BitVec 32 := Scalar.subi v242 v260
  let c32_i32_107 : BitVec 32 := 32#32
  let v262 : BitVec 32 := Scalar.muli v261 c32_i32_107
  v262
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_112 : BitVec 32 := 8#32
  let v277 : BitVec 32 := Scalar.muli arg14 c8_i32_112
  let c7_i32 : BitVec 32 := 7#32
  let v278 : BitVec 32 := Scalar.addi v277 c7_i32
  let c0_i32_114 : BitVec 32 := 0#32
  let v280 : BitVec 1 := Scalar.cmpi .sgt v278 c0_i32_114
  let v281 : BitVec 32 := Scalar.extui v280
  let c0_i32_115 : BitVec 32 := 0#32
  let v282 : BitVec 1 := Scalar.cmpi .slt v278 c0_i32_115
  let v283 : BitVec 32 := Scalar.extui v282
  let v284 : BitVec 32 := Scalar.subi v281 v283
  let c54_i32_113 : BitVec 32 := 54#32
  let c0_i32_116 : BitVec 32 := 0#32
  let v285 : BitVec 1 := Scalar.cmpi .sgt c54_i32_113 c0_i32_116
  let v286 : BitVec 32 := Scalar.extui v285
  let c0_i32_117 : BitVec 32 := 0#32
  let v287 : BitVec 1 := Scalar.cmpi .slt c54_i32_113 c0_i32_117
  let v288 : BitVec 32 := Scalar.extui v287
  let v289 : BitVec 32 := Scalar.subi v286 v288
  let v290 : BitVec 1 := Scalar.cmpi .ne v284 v289
  let v291 : BitVec 32 := Scalar.remsi v278 c54_i32_113
  let c0_i32_118 : BitVec 32 := 0#32
  let v292 : BitVec 1 := Scalar.cmpi .ne v291 c0_i32_118
  let v293 : BitVec 1 := Scalar.andi v290 v292
  let v279 : BitVec 32 := Scalar.divsi v278 c54_i32_113
  let c1_i32_119 : BitVec 32 := 1#32
  let v294 : BitVec 32 := Scalar.subi v279 c1_i32_119
  let v295 : BitVec 32 := Scalar.select v293 v294 v279
  let c54_i32_120 : BitVec 32 := 54#32
  let v296 : BitVec 32 := Scalar.muli v295 c54_i32_120
  let v297 : BitVec 32 := Scalar.subi v278 v296
  let c32_i32_121 : BitVec 32 := 32#32
  let v298 : BitVec 32 := Scalar.muli v297 c32_i32_121
  v298
def k0_mult9 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_130 : BitVec 32 := 8#32
  let v320 : BitVec 32 := Scalar.muli arg14 c8_i32_130
  let c0_i32_131 : BitVec 32 := 0#32
  let v321 : BitVec 32 := Scalar.addi v320 c0_i32_131
  let c0_i32_133 : BitVec 32 := 0#32
  let v323 : BitVec 1 := Scalar.cmpi .sgt v321 c0_i32_133
  let v324 : BitVec 32 := Scalar.extui v323
  let c0_i32_134 : BitVec 32 := 0#32
  let v325 : BitVec 1 := Scalar.cmpi .slt v321 c0_i32_134
  let v326 : BitVec 32 := Scalar.extui v325
  let v327 : BitVec 32 := Scalar.subi v324 v326
  let c54_i32_132 : BitVec 32 := 54#32
  let c0_i32_135 : BitVec 32 := 0#32
  let v328 : BitVec 1 := Scalar.cmpi .sgt c54_i32_132 c0_i32_135
  let v329 : BitVec 32 := Scalar.extui v328
  let c0_i32_136 : BitVec 32 := 0#32
  let v330 : BitVec 1 := Scalar.cmpi .slt c54_i32_132 c0_i32_136
  let v331 : BitVec 32 := Scalar.extui v330
  let v332 : BitVec 32 := Scalar.subi v329 v331
  let v333 : BitVec 1 := Scalar.cmpi .ne v327 v332
  let v334 : BitVec 32 := Scalar.remsi v321 c54_i32_132
  let c0_i32_137 : BitVec 32 := 0#32
  let v335 : BitVec 1 := Scalar.cmpi .ne v334 c0_i32_137
  let v336 : BitVec 1 := Scalar.andi v333 v335
  let v322 : BitVec 32 := Scalar.divsi v321 c54_i32_132
  let c1_i32_138 : BitVec 32 := 1#32
  let v337 : BitVec 32 := Scalar.subi v322 c1_i32_138
  let v338 : BitVec 32 := Scalar.select v336 v337 v322
  let c54_i32_139 : BitVec 32 := 54#32
  let v339 : BitVec 32 := Scalar.muli v338 c54_i32_139
  let v340 : BitVec 32 := Scalar.subi v321 v339
  let c32_i32_140 : BitVec 32 := 32#32
  let v341 : BitVec 32 := Scalar.muli v340 c32_i32_140
  v341
def k0_mult10 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_145 : BitVec 32 := 8#32
  let v356 : BitVec 32 := Scalar.muli arg14 c8_i32_145
  let c1_i32_146 : BitVec 32 := 1#32
  let v357 : BitVec 32 := Scalar.addi v356 c1_i32_146
  let c0_i32_148 : BitVec 32 := 0#32
  let v359 : BitVec 1 := Scalar.cmpi .sgt v357 c0_i32_148
  let v360 : BitVec 32 := Scalar.extui v359
  let c0_i32_149 : BitVec 32 := 0#32
  let v361 : BitVec 1 := Scalar.cmpi .slt v357 c0_i32_149
  let v362 : BitVec 32 := Scalar.extui v361
  let v363 : BitVec 32 := Scalar.subi v360 v362
  let c54_i32_147 : BitVec 32 := 54#32
  let c0_i32_150 : BitVec 32 := 0#32
  let v364 : BitVec 1 := Scalar.cmpi .sgt c54_i32_147 c0_i32_150
  let v365 : BitVec 32 := Scalar.extui v364
  let c0_i32_151 : BitVec 32 := 0#32
  let v366 : BitVec 1 := Scalar.cmpi .slt c54_i32_147 c0_i32_151
  let v367 : BitVec 32 := Scalar.extui v366
  let v368 : BitVec 32 := Scalar.subi v365 v367
  let v369 : BitVec 1 := Scalar.cmpi .ne v363 v368
  let v370 : BitVec 32 := Scalar.remsi v357 c54_i32_147
  let c0_i32_152 : BitVec 32 := 0#32
  let v371 : BitVec 1 := Scalar.cmpi .ne v370 c0_i32_152
  let v372 : BitVec 1 := Scalar.andi v369 v371
  let v358 : BitVec 32 := Scalar.divsi v357 c54_i32_147
  let c1_i32_153 : BitVec 32 := 1#32
  let v373 : BitVec 32 := Scalar.subi v358 c1_i32_153
  let v374 : BitVec 32 := Scalar.select v372 v373 v358
  let c54_i32_154 : BitVec 32 := 54#32
  let v375 : BitVec 32 := Scalar.muli v374 c54_i32_154
  let v376 : BitVec 32 := Scalar.subi v357 v375
  let c32_i32_155 : BitVec 32 := 32#32
  let v377 : BitVec 32 := Scalar.muli v376 c32_i32_155
  v377
def k0_mult11 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_160 : BitVec 32 := 8#32
  let v392 : BitVec 32 := Scalar.muli arg14 c8_i32_160
  let c2_i32_161 : BitVec 32 := 2#32
  let v393 : BitVec 32 := Scalar.addi v392 c2_i32_161
  let c0_i32_163 : BitVec 32 := 0#32
  let v395 : BitVec 1 := Scalar.cmpi .sgt v393 c0_i32_163
  let v396 : BitVec 32 := Scalar.extui v395
  let c0_i32_164 : BitVec 32 := 0#32
  let v397 : BitVec 1 := Scalar.cmpi .slt v393 c0_i32_164
  let v398 : BitVec 32 := Scalar.extui v397
  let v399 : BitVec 32 := Scalar.subi v396 v398
  let c54_i32_162 : BitVec 32 := 54#32
  let c0_i32_165 : BitVec 32 := 0#32
  let v400 : BitVec 1 := Scalar.cmpi .sgt c54_i32_162 c0_i32_165
  let v401 : BitVec 32 := Scalar.extui v400
  let c0_i32_166 : BitVec 32 := 0#32
  let v402 : BitVec 1 := Scalar.cmpi .slt c54_i32_162 c0_i32_166
  let v403 : BitVec 32 := Scalar.extui v402
  let v404 : BitVec 32 := Scalar.subi v401 v403
  let v405 : BitVec 1 := Scalar.cmpi .ne v399 v404
  let v406 : BitVec 32 := Scalar.remsi v393 c54_i32_162
  let c0_i32_167 : BitVec 32 := 0#32
  let v407 : BitVec 1 := Scalar.cmpi .ne v406 c0_i32_167
  let v408 : BitVec 1 := Scalar.andi v405 v407
  let v394 : BitVec 32 := Scalar.divsi v393 c54_i32_162
  let c1_i32_168 : BitVec 32 := 1#32
  let v409 : BitVec 32 := Scalar.subi v394 c1_i32_168
  let v410 : BitVec 32 := Scalar.select v408 v409 v394
  let c54_i32_169 : BitVec 32 := 54#32
  let v411 : BitVec 32 := Scalar.muli v410 c54_i32_169
  let v412 : BitVec 32 := Scalar.subi v393 v411
  let c32_i32_170 : BitVec 32 := 32#32
  let v413 : BitVec 32 := Scalar.muli v412 c32_i32_170
  v413
def k0_mult12 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_175 : BitVec 32 := 8#32
  let v428 : BitVec 32 := Scalar.muli arg14 c8_i32_175
  let c3_i32_176 : BitVec 32 := 3#32
  let v429 : BitVec 32 := Scalar.addi v428 c3_i32_176
  let c0_i32_178 : BitVec 32 := 0#32
  let v431 : BitVec 1 := Scalar.cmpi .sgt v429 c0_i32_178
  let v432 : BitVec 32 := Scalar.extui v431
  let c0_i32_179 : BitVec 32 := 0#32
  let v433 : BitVec 1 := Scalar.cmpi .slt v429 c0_i32_179
  let v434 : BitVec 32 := Scalar.extui v433
  let v435 : BitVec 32 := Scalar.subi v432 v434
  let c54_i32_177 : BitVec 32 := 54#32
  let c0_i32_180 : BitVec 32 := 0#32
  let v436 : BitVec 1 := Scalar.cmpi .sgt c54_i32_177 c0_i32_180
  let v437 : BitVec 32 := Scalar.extui v436
  let c0_i32_181 : BitVec 32 := 0#32
  let v438 : BitVec 1 := Scalar.cmpi .slt c54_i32_177 c0_i32_181
  let v439 : BitVec 32 := Scalar.extui v438
  let v440 : BitVec 32 := Scalar.subi v437 v439
  let v441 : BitVec 1 := Scalar.cmpi .ne v435 v440
  let v442 : BitVec 32 := Scalar.remsi v429 c54_i32_177
  let c0_i32_182 : BitVec 32 := 0#32
  let v443 : BitVec 1 := Scalar.cmpi .ne v442 c0_i32_182
  let v444 : BitVec 1 := Scalar.andi v441 v443
  let v430 : BitVec 32 := Scalar.divsi v429 c54_i32_177
  let c1_i32_183 : BitVec 32 := 1#32
  let v445 : BitVec 32 := Scalar.subi v430 c1_i32_183
  let v446 : BitVec 32 := Scalar.select v444 v445 v430
  let c54_i32_184 : BitVec 32 := 54#32
  let v447 : BitVec 32 := Scalar.muli v446 c54_i32_184
  let v448 : BitVec 32 := Scalar.subi v429 v447
  let c32_i32_185 : BitVec 32 := 32#32
  let v449 : BitVec 32 := Scalar.muli v448 c32_i32_185
  v449
def k0_mult13 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_190 : BitVec 32 := 8#32
  let v464 : BitVec 32 := Scalar.muli arg14 c8_i32_190
  let c4_i32_191 : BitVec 32 := 4#32
  let v465 : BitVec 32 := Scalar.addi v464 c4_i32_191
  let c0_i32_193 : BitVec 32 := 0#32
  let v467 : BitVec 1 := Scalar.cmpi .sgt v465 c0_i32_193
  let v468 : BitVec 32 := Scalar.extui v467
  let c0_i32_194 : BitVec 32 := 0#32
  let v469 : BitVec 1 := Scalar.cmpi .slt v465 c0_i32_194
  let v470 : BitVec 32 := Scalar.extui v469
  let v471 : BitVec 32 := Scalar.subi v468 v470
  let c54_i32_192 : BitVec 32 := 54#32
  let c0_i32_195 : BitVec 32 := 0#32
  let v472 : BitVec 1 := Scalar.cmpi .sgt c54_i32_192 c0_i32_195
  let v473 : BitVec 32 := Scalar.extui v472
  let c0_i32_196 : BitVec 32 := 0#32
  let v474 : BitVec 1 := Scalar.cmpi .slt c54_i32_192 c0_i32_196
  let v475 : BitVec 32 := Scalar.extui v474
  let v476 : BitVec 32 := Scalar.subi v473 v475
  let v477 : BitVec 1 := Scalar.cmpi .ne v471 v476
  let v478 : BitVec 32 := Scalar.remsi v465 c54_i32_192
  let c0_i32_197 : BitVec 32 := 0#32
  let v479 : BitVec 1 := Scalar.cmpi .ne v478 c0_i32_197
  let v480 : BitVec 1 := Scalar.andi v477 v479
  let v466 : BitVec 32 := Scalar.divsi v465 c54_i32_192
  let c1_i32_198 : BitVec 32 := 1#32
  let v481 : BitVec 32 := Scalar.subi v466 c1_i32_198
  let v482 : BitVec 32 := Scalar.select v480 v481 v466
  let c54_i32_199 : BitVec 32 := 54#32
  let v483 : BitVec 32 := Scalar.muli v482 c54_i32_199
  let v484 : BitVec 32 := Scalar.subi v465 v483
  let c32_i32_200 : BitVec 32 := 32#32
  let v485 : BitVec 32 := Scalar.muli v484 c32_i32_200
  v485
def k0_mult14 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_205 : BitVec 32 := 8#32
  let v500 : BitVec 32 := Scalar.muli arg14 c8_i32_205
  let c5_i32_206 : BitVec 32 := 5#32
  let v501 : BitVec 32 := Scalar.addi v500 c5_i32_206
  let c0_i32_208 : BitVec 32 := 0#32
  let v503 : BitVec 1 := Scalar.cmpi .sgt v501 c0_i32_208
  let v504 : BitVec 32 := Scalar.extui v503
  let c0_i32_209 : BitVec 32 := 0#32
  let v505 : BitVec 1 := Scalar.cmpi .slt v501 c0_i32_209
  let v506 : BitVec 32 := Scalar.extui v505
  let v507 : BitVec 32 := Scalar.subi v504 v506
  let c54_i32_207 : BitVec 32 := 54#32
  let c0_i32_210 : BitVec 32 := 0#32
  let v508 : BitVec 1 := Scalar.cmpi .sgt c54_i32_207 c0_i32_210
  let v509 : BitVec 32 := Scalar.extui v508
  let c0_i32_211 : BitVec 32 := 0#32
  let v510 : BitVec 1 := Scalar.cmpi .slt c54_i32_207 c0_i32_211
  let v511 : BitVec 32 := Scalar.extui v510
  let v512 : BitVec 32 := Scalar.subi v509 v511
  let v513 : BitVec 1 := Scalar.cmpi .ne v507 v512
  let v514 : BitVec 32 := Scalar.remsi v501 c54_i32_207
  let c0_i32_212 : BitVec 32 := 0#32
  let v515 : BitVec 1 := Scalar.cmpi .ne v514 c0_i32_212
  let v516 : BitVec 1 := Scalar.andi v513 v515
  let v502 : BitVec 32 := Scalar.divsi v501 c54_i32_207
  let c1_i32_213 : BitVec 32 := 1#32
  let v517 : BitVec 32 := Scalar.subi v502 c1_i32_213
  let v518 : BitVec 32 := Scalar.select v516 v517 v502
  let c54_i32_214 : BitVec 32 := 54#32
  let v519 : BitVec 32 := Scalar.muli v518 c54_i32_214
  let v520 : BitVec 32 := Scalar.subi v501 v519
  let c32_i32_215 : BitVec 32 := 32#32
  let v521 : BitVec 32 := Scalar.muli v520 c32_i32_215
  v521
def k0_mult15 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_220 : BitVec 32 := 8#32
  let v536 : BitVec 32 := Scalar.muli arg14 c8_i32_220
  let c6_i32_221 : BitVec 32 := 6#32
  let v537 : BitVec 32 := Scalar.addi v536 c6_i32_221
  let c0_i32_223 : BitVec 32 := 0#32
  let v539 : BitVec 1 := Scalar.cmpi .sgt v537 c0_i32_223
  let v540 : BitVec 32 := Scalar.extui v539
  let c0_i32_224 : BitVec 32 := 0#32
  let v541 : BitVec 1 := Scalar.cmpi .slt v537 c0_i32_224
  let v542 : BitVec 32 := Scalar.extui v541
  let v543 : BitVec 32 := Scalar.subi v540 v542
  let c54_i32_222 : BitVec 32 := 54#32
  let c0_i32_225 : BitVec 32 := 0#32
  let v544 : BitVec 1 := Scalar.cmpi .sgt c54_i32_222 c0_i32_225
  let v545 : BitVec 32 := Scalar.extui v544
  let c0_i32_226 : BitVec 32 := 0#32
  let v546 : BitVec 1 := Scalar.cmpi .slt c54_i32_222 c0_i32_226
  let v547 : BitVec 32 := Scalar.extui v546
  let v548 : BitVec 32 := Scalar.subi v545 v547
  let v549 : BitVec 1 := Scalar.cmpi .ne v543 v548
  let v550 : BitVec 32 := Scalar.remsi v537 c54_i32_222
  let c0_i32_227 : BitVec 32 := 0#32
  let v551 : BitVec 1 := Scalar.cmpi .ne v550 c0_i32_227
  let v552 : BitVec 1 := Scalar.andi v549 v551
  let v538 : BitVec 32 := Scalar.divsi v537 c54_i32_222
  let c1_i32_228 : BitVec 32 := 1#32
  let v553 : BitVec 32 := Scalar.subi v538 c1_i32_228
  let v554 : BitVec 32 := Scalar.select v552 v553 v538
  let c54_i32_229 : BitVec 32 := 54#32
  let v555 : BitVec 32 := Scalar.muli v554 c54_i32_229
  let v556 : BitVec 32 := Scalar.subi v537 v555
  let c32_i32_230 : BitVec 32 := 32#32
  let v557 : BitVec 32 := Scalar.muli v556 c32_i32_230
  v557
def k0_mult16 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_235 : BitVec 32 := 8#32
  let v572 : BitVec 32 := Scalar.muli arg14 c8_i32_235
  let c7_i32_236 : BitVec 32 := 7#32
  let v573 : BitVec 32 := Scalar.addi v572 c7_i32_236
  let c0_i32_238 : BitVec 32 := 0#32
  let v575 : BitVec 1 := Scalar.cmpi .sgt v573 c0_i32_238
  let v576 : BitVec 32 := Scalar.extui v575
  let c0_i32_239 : BitVec 32 := 0#32
  let v577 : BitVec 1 := Scalar.cmpi .slt v573 c0_i32_239
  let v578 : BitVec 32 := Scalar.extui v577
  let v579 : BitVec 32 := Scalar.subi v576 v578
  let c54_i32_237 : BitVec 32 := 54#32
  let c0_i32_240 : BitVec 32 := 0#32
  let v580 : BitVec 1 := Scalar.cmpi .sgt c54_i32_237 c0_i32_240
  let v581 : BitVec 32 := Scalar.extui v580
  let c0_i32_241 : BitVec 32 := 0#32
  let v582 : BitVec 1 := Scalar.cmpi .slt c54_i32_237 c0_i32_241
  let v583 : BitVec 32 := Scalar.extui v582
  let v584 : BitVec 32 := Scalar.subi v581 v583
  let v585 : BitVec 1 := Scalar.cmpi .ne v579 v584
  let v586 : BitVec 32 := Scalar.remsi v573 c54_i32_237
  let c0_i32_242 : BitVec 32 := 0#32
  let v587 : BitVec 1 := Scalar.cmpi .ne v586 c0_i32_242
  let v588 : BitVec 1 := Scalar.andi v585 v587
  let v574 : BitVec 32 := Scalar.divsi v573 c54_i32_237
  let c1_i32_243 : BitVec 32 := 1#32
  let v589 : BitVec 32 := Scalar.subi v574 c1_i32_243
  let v590 : BitVec 32 := Scalar.select v588 v589 v574
  let c54_i32_244 : BitVec 32 := 54#32
  let v591 : BitVec 32 := Scalar.muli v590 c54_i32_244
  let v592 : BitVec 32 := Scalar.subi v573 v591
  let c32_i32_245 : BitVec 32 := 32#32
  let v593 : BitVec 32 := Scalar.muli v592 c32_i32_245
  v593
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v618 : Index := Scalar.indexCast arg14
  let c0_252 : Index := 0#32
  let c0_253 : Index := 0#32
  ![v618.toNat, 0, 0]
@[reducible] def k0_t2_loop : Scf.Loop 32 :=
  let c0_i32_6 : BitVec 32 := 0#32
  let c16_i32 : BitVec 32 := 16#32
  let v13 : BitVec 32 := Scalar.addi c0_i32_6 c16_i32
  let c1_i32_7 : BitVec 32 := 1#32
  ⟨c0_i32_6, v13, c1_i32_7⟩
def k0_mult17 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  v24
def k0_off4 (k0_t2 : Fin k0_t2_loop.trips) : Fin 3 → Nat :=
  let c0_15 : Index := 0#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v26 : Index := Scalar.indexCast v25
  let c0_16 : Index := 0#32
  ![0, v26.toNat, 0]
def k0_off5 (k0_t2 : Fin k0_t2_loop.trips) : Fin 3 → Nat :=
  let c1 : Index := 1#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v29 : Index := Scalar.indexCast v25
  let c0_17 : Index := 0#32
  ![1, v29.toNat, 0]
def k0_off6 (k0_t2 : Fin k0_t2_loop.trips) : Fin 3 → Nat :=
  let c2 : Index := 2#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v32 : Index := Scalar.indexCast v25
  let c0_18 : Index := 0#32
  ![2, v32.toNat, 0]
def k0_off7 (k0_t2 : Fin k0_t2_loop.trips) : Fin 3 → Nat :=
  let c3 : Index := 3#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v35 : Index := Scalar.indexCast v25
  let c0_19 : Index := 0#32
  ![3, v35.toNat, 0]
def k0_off8 (k0_t2 : Fin k0_t2_loop.trips) : Fin 3 → Nat :=
  let c4 : Index := 4#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v38 : Index := Scalar.indexCast v25
  let c0_20 : Index := 0#32
  ![4, v38.toNat, 0]
def k0_off9 (k0_t2 : Fin k0_t2_loop.trips) : Fin 3 → Nat :=
  let c5 : Index := 5#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v41 : Index := Scalar.indexCast v25
  let c0_21 : Index := 0#32
  ![5, v41.toNat, 0]
def k0_off10 (k0_t2 : Fin k0_t2_loop.trips) : Fin 3 → Nat :=
  let c6 : Index := 6#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v44 : Index := Scalar.indexCast v25
  let c0_22 : Index := 0#32
  ![6, v44.toNat, 0]
def k0_off11 (k0_t2 : Fin k0_t2_loop.trips) : Fin 3 → Nat :=
  let c7 : Index := 7#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v47 : Index := Scalar.indexCast v25
  let c0_23 : Index := 0#32
  ![7, v47.toNat, 0]
def k0_off12 (k0_t2 : Fin k0_t2_loop.trips) : Fin 3 → Nat :=
  let c8 : Index := 8#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v50 : Index := Scalar.indexCast v25
  let c0_24 : Index := 0#32
  ![8, v50.toNat, 0]
def k0_off13 (k0_t2 : Fin k0_t2_loop.trips) : Fin 3 → Nat :=
  let c9 : Index := 9#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v53 : Index := Scalar.indexCast v25
  let c0_25 : Index := 0#32
  ![9, v53.toNat, 0]
def k0_off14 (k0_t2 : Fin k0_t2_loop.trips) : Fin 3 → Nat :=
  let c10 : Index := 10#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v56 : Index := Scalar.indexCast v25
  let c0_26 : Index := 0#32
  ![10, v56.toNat, 0]
def k0_off15 (k0_t2 : Fin k0_t2_loop.trips) : Fin 3 → Nat :=
  let c11 : Index := 11#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v59 : Index := Scalar.indexCast v25
  let c0_27 : Index := 0#32
  ![11, v59.toNat, 0]
def k0_off16 (k0_t2 : Fin k0_t2_loop.trips) : Fin 3 → Nat :=
  let c12 : Index := 12#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v62 : Index := Scalar.indexCast v25
  let c0_28 : Index := 0#32
  ![12, v62.toNat, 0]
def k0_off17 (k0_t2 : Fin k0_t2_loop.trips) : Fin 3 → Nat :=
  let c13 : Index := 13#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v65 : Index := Scalar.indexCast v25
  let c0_29 : Index := 0#32
  ![13, v65.toNat, 0]
def k0_off18 (k0_t2 : Fin k0_t2_loop.trips) : Fin 3 → Nat :=
  let c14 : Index := 14#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v68 : Index := Scalar.indexCast v25
  let c0_30 : Index := 0#32
  ![14, v68.toNat, 0]
def k0_off19 (k0_t2 : Fin k0_t2_loop.trips) : Fin 3 → Nat :=
  let c15 : Index := 15#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v71 : Index := Scalar.indexCast v25
  let c0_31 : Index := 0#32
  ![15, v71.toNat, 0]
def k0_off20 (k0_t2 : Fin k0_t2_loop.trips) : Fin 3 → Nat :=
  let c16 : Index := 16#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v74 : Index := Scalar.indexCast v25
  let c0_32 : Index := 0#32
  ![16, v74.toNat, 0]
def k0_off21 (k0_t2 : Fin k0_t2_loop.trips) : Fin 3 → Nat :=
  let c17 : Index := 17#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v77 : Index := Scalar.indexCast v25
  let c0_33 : Index := 0#32
  ![17, v77.toNat, 0]
def k0_off22 (k0_t2 : Fin k0_t2_loop.trips) : Fin 3 → Nat :=
  let c18 : Index := 18#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v80 : Index := Scalar.indexCast v25
  let c0_34 : Index := 0#32
  ![18, v80.toNat, 0]
def k0_off23 (k0_t2 : Fin k0_t2_loop.trips) : Fin 3 → Nat :=
  let c19 : Index := 19#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v83 : Index := Scalar.indexCast v25
  let c0_35 : Index := 0#32
  ![19, v83.toNat, 0]
def k0_off24 (k0_t2 : Fin k0_t2_loop.trips) : Fin 3 → Nat :=
  let c20 : Index := 20#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v86 : Index := Scalar.indexCast v25
  let c0_36 : Index := 0#32
  ![20, v86.toNat, 0]
def k0_off25 (k0_t2 : Fin k0_t2_loop.trips) : Fin 3 → Nat :=
  let c21 : Index := 21#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v89 : Index := Scalar.indexCast v25
  let c0_37 : Index := 0#32
  ![21, v89.toNat, 0]
def k0_off26 (k0_t2 : Fin k0_t2_loop.trips) : Fin 3 → Nat :=
  let c22 : Index := 22#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v92 : Index := Scalar.indexCast v25
  let c0_38 : Index := 0#32
  ![22, v92.toNat, 0]
def k0_off27 (k0_t2 : Fin k0_t2_loop.trips) : Fin 3 → Nat :=
  let c23 : Index := 23#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v95 : Index := Scalar.indexCast v25
  let c0_39 : Index := 0#32
  ![23, v95.toNat, 0]
def k0_off28 (k0_t2 : Fin k0_t2_loop.trips) : Fin 3 → Nat :=
  let c24 : Index := 24#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v98 : Index := Scalar.indexCast v25
  let c0_40 : Index := 0#32
  ![24, v98.toNat, 0]
def k0_off29 (k0_t2 : Fin k0_t2_loop.trips) : Fin 3 → Nat :=
  let c25 : Index := 25#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v101 : Index := Scalar.indexCast v25
  let c0_41 : Index := 0#32
  ![25, v101.toNat, 0]
def k0_off30 (k0_t2 : Fin k0_t2_loop.trips) : Fin 3 → Nat :=
  let c26 : Index := 26#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v104 : Index := Scalar.indexCast v25
  let c0_42 : Index := 0#32
  ![26, v104.toNat, 0]
def k0_off31 (k0_t2 : Fin k0_t2_loop.trips) : Fin 3 → Nat :=
  let c0_53 : Index := 0#32
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v139 : Index := Scalar.indexCast v25
  let c0_54 : Index := 0#32
  ![0, v139.toNat, 0]
def k0_off32 (k0_t2 : Fin k0_t2_loop.trips) : Fin 2 → Nat :=
  let c0_i32_6 : BitVec 32 := 0#32
  let c1_i32_7 : BitVec 32 := 1#32
  let arg14 : BitVec 32 := Scf.iv c0_i32_6 c1_i32_7 k0_t2
  let c32_i32 : BitVec 32 := 32#32
  let v24 : BitVec 32 := Scalar.muli arg14 c32_i32
  let v25 : BitVec 32 := v24
  let v145 : Index := Scalar.indexCast v25
  let c0_55 : Index := 0#32
  ![v145.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1728x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1728x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x6912 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateUpReferenceIdeal.lean ====
abbrev S_ : Shape := ⟨0, ![]⟩
abbrev S3x512x2560 : Shape := ⟨3, ![3, 512, 2560]⟩
abbrev S3x512 : Shape := ⟨2, ![3, 512]⟩
abbrev S2560x1728 : Shape := ⟨2, ![2560, 1728]⟩
abbrev S6912 : Shape := ⟨1, ![6912]⟩
abbrev S3x512x1728 : Shape := ⟨3, ![3, 512, 1728]⟩
abbrev S3x512x6912 : Shape := ⟨3, ![3, 512, 6912]⟩
abbrev S3x512x1 : Shape := ⟨3, ![3, 512, 1]⟩
abbrev S1x1x6912 : Shape := ⟨3, ![1, 1, 6912]⟩

abbrev nBuf : Space → Nat
  | .hbm => 167
  | .vmem => 0
  | .smem => 0
  | _ => 0

abbrev hbmTy0_0 (i : Nat) : BufTy := match i % 128 with
  | 0 => ⟨S_, .f32⟩
  | 1 => ⟨S_, .f32⟩
  | 2 => ⟨S3x512x2560, .i8⟩
  | 3 => ⟨S3x512, .f32⟩
  | 4 => ⟨S2560x1728, .i8⟩
  | 5 => ⟨S2560x1728, .i8⟩
  | 6 => ⟨S6912, .f32⟩
  | 7 => ⟨S3x512x2560, .i32⟩
  | 8 => ⟨S3x512x2560, .bf16⟩
  | 9 => ⟨S2560x1728, .i32⟩
  | 10 => ⟨S_, .i32⟩
  | 11 => ⟨S2560x1728, .i32⟩
  | 12 => ⟨S2560x1728, .i32⟩
  | 13 => ⟨S_, .i32⟩
  | 14 => ⟨S2560x1728, .i32⟩
  | 15 => ⟨S2560x1728, .i32⟩
  | 16 => ⟨S_, .i32⟩
  | 17 => ⟨S2560x1728, .i32⟩
  | 18 => ⟨S2560x1728, .i32⟩
  | 19 => ⟨S2560x1728, .bf16⟩
  | 20 => ⟨S3x512x1728, .f32⟩
  | 21 => ⟨S2560x1728, .i32⟩
  | 22 => ⟨S_, .i32⟩
  | 23 => ⟨S2560x1728, .i32⟩
  | 24 => ⟨S2560x1728, .i32⟩
  | 25 => ⟨S_, .i32⟩
  | 26 => ⟨S2560x1728, .i32⟩
  | 27 => ⟨S2560x1728, .i32⟩
  | 28 => ⟨S_, .i32⟩
  | 29 => ⟨S2560x1728, .i32⟩
  | 30 => ⟨S2560x1728, .i32⟩
  | 31 => ⟨S2560x1728, .bf16⟩
  | 32 => ⟨S3x512x1728, .f32⟩
  | 33 => ⟨S2560x1728, .i32⟩
  | 34 => ⟨S_, .i32⟩
  | 35 => ⟨S2560x1728, .i32⟩
  | 36 => ⟨S2560x1728, .i32⟩
  | 37 => ⟨S_, .i32⟩
  | 38 => ⟨S2560x1728, .i32⟩
  | 39 => ⟨S2560x1728, .i32⟩
  | 40 => ⟨S_, .i32⟩
  | 41 => ⟨S2560x1728, .i32⟩
  | 42 => ⟨S2560x1728, .i32⟩
  | 43 => ⟨S2560x1728, .bf16⟩
  | 44 => ⟨S3x512x1728, .f32⟩
  | 45 => ⟨S2560x1728, .i32⟩
  | 46 => ⟨S_, .i32⟩
  | 47 => ⟨S2560x1728, .i32⟩
  | 48 => ⟨S2560x1728, .i32⟩
  | 49 => ⟨S_, .i32⟩
  | 50 => ⟨S2560x1728, .i32⟩
  | 51 => ⟨S2560x1728, .i32⟩
  | 52 => ⟨S_, .i32⟩
  | 53 => ⟨S2560x1728, .i32⟩
  | 54 => ⟨S2560x1728, .i32⟩
  | 55 => ⟨S2560x1728, .bf16⟩
  | 56 => ⟨S3x512x1728, .f32⟩
  | 57 => ⟨S3x512x6912, .f32⟩
  | 58 => ⟨S3x512x1, .f32⟩
  | 59 => ⟨S3x512x6912, .f32⟩
  | 60 => ⟨S3x512x6912, .f32⟩
  | 61 => ⟨S3x512x6912, .f32⟩
  | 62 => ⟨S3x512x6912, .f32⟩
  | 63 => ⟨S3x512x2560, .i32⟩
  | 64 => ⟨S3x512x2560, .bf16⟩
  | 65 => ⟨S2560x1728, .i32⟩
  | 66 => ⟨S_, .i32⟩
  | 67 => ⟨S2560x1728, .i32⟩
  | 68 => ⟨S2560x1728, .i32⟩
  | 69 => ⟨S_, .i32⟩
  | 70 => ⟨S2560x1728, .i32⟩
  | 71 => ⟨S2560x1728, .i32⟩
  | 72 => ⟨S_, .i32⟩
  | 73 => ⟨S2560x1728, .i32⟩
  | 74 => ⟨S2560x1728, .i32⟩
  | 75 => ⟨S2560x1728, .bf16⟩
  | 76 => ⟨S3x512x1728, .f32⟩
  | 77 => ⟨S2560x1728, .i32⟩
  | 78 => ⟨S_, .i32⟩
  | 79 => ⟨S2560x1728, .i32⟩
  | 80 => ⟨S2560x1728, .i32⟩
  | 81 => ⟨S_, .i32⟩
  | 82 => ⟨S2560x1728, .i32⟩
  | 83 => ⟨S2560x1728, .i32⟩
  | 84 => ⟨S_, .i32⟩
  | 85 => ⟨S2560x1728, .i32⟩
  | 86 => ⟨S2560x1728, .i32⟩
  | 87 => ⟨S2560x1728, .bf16⟩
  | 88 => ⟨S3x512x1728, .f32⟩
  | 89 => ⟨S2560x1728, .i32⟩
  | 90 => ⟨S_, .i32⟩
  | 91 => ⟨S2560x1728, .i32⟩
  | 92 => ⟨S2560x1728, .i32⟩
  | 93 => ⟨S_, .i32⟩
  | 94 => ⟨S2560x1728, .i32⟩
  | 95 => ⟨S2560x1728, .i32⟩
  | 96 => ⟨S_, .i32⟩
  | 97 => ⟨S2560x1728, .i32⟩
  | 98 => ⟨S2560x1728, .i32⟩
  | 99 => ⟨S2560x1728, .bf16⟩
  | 100 => ⟨S3x512x1728, .f32⟩
  | 101 => ⟨S2560x1728, .i32⟩
  | 102 => ⟨S_, .i32⟩
  | 103 => ⟨S2560x1728, .i32⟩
  | 104 => ⟨S2560x1728, .i32⟩
  | 105 => ⟨S_, .i32⟩
  | 106 => ⟨S2560x1728, .i32⟩
  | 107 => ⟨S2560x1728, .i32⟩
  | 108 => ⟨S_, .i32⟩
  | 109 => ⟨S2560x1728, .i32⟩
  | 110 => ⟨S2560x1728, .i32⟩
  | 111 => ⟨S2560x1728, .bf16⟩
  | 112 => ⟨S3x512x1728, .f32⟩
  | 113 => ⟨S3x512x6912, .f32⟩
  | 114 => ⟨S3x512x1, .f32⟩
  | 115 => ⟨S3x512x6912, .f32⟩
  | 116 => ⟨S3x512x6912, .f32⟩
  | 117 => ⟨S3x512x6912, .f32⟩
  | 118 => ⟨S3x512x6912, .f32⟩
  | 119 => ⟨S_, .f32⟩
  | 120 => ⟨S3x512x6912, .f32⟩
  | 121 => ⟨S3x512x6912, .f32⟩
  | 122 => ⟨S3x512x6912, .f32⟩
  | 123 => ⟨S3x512x6912, .f32⟩
  | 124 => ⟨S3x512x6912, .f32⟩
  | 125 => ⟨S_, .f32⟩
  | 126 => ⟨S3x512, .f32⟩
  | 127 => ⟨S_, .f32⟩
  | _ => ⟨S_, .f32⟩

abbrev hbmTy0_1 (i : Nat) : BufTy := match i % 128 with
  | 0 => ⟨S3x512, .f32⟩
  | 1 => ⟨S3x512, .f32⟩
  | 2 => ⟨S_, .f32⟩
  | 3 => ⟨S3x512, .f32⟩
  | 4 => ⟨S3x512, .f32⟩
  | 5 => ⟨S3x512, .f32⟩
  | 6 => ⟨S3x512x1, .f32⟩
  | 7 => ⟨S3x512x6912, .f32⟩
  | 8 => ⟨S3x512x6912, .f32⟩
  | 9 => ⟨S1x1x6912, .f32⟩
  | 10 => ⟨S3x512x6912, .f32⟩
  | 11 => ⟨S3x512x6912, .f32⟩
  | 12 => ⟨S3x512x6912, .f32⟩
  | 13 => ⟨S_, .f32⟩
  | 14 => ⟨S3x512, .f32⟩
  | 15 => ⟨S_, .f32⟩
  | 16 => ⟨S3x512, .f32⟩
  | 17 => ⟨S3x512, .i1⟩
  | 18 => ⟨S_, .f32⟩
  | 19 => ⟨S3x512, .f32⟩
  | 20 => ⟨S3x512, .f32⟩
  | 21 => ⟨S_, .f32⟩
  | 22 => ⟨S_, .f32⟩
  | 23 => ⟨S3x512, .f32⟩
  | 24 => ⟨S3x512, .f32⟩
  | 25 => ⟨S3x512x1, .f32⟩
  | 26 => ⟨S3x512x6912, .f32⟩
  | 27 => ⟨S3x512x6912, .f32⟩
  | 28 => ⟨S3x512x6912, .f32⟩
  | 29 => ⟨S_, .f32⟩
  | 30 => ⟨S_, .f32⟩
  | 31 => ⟨S_, .f32⟩
  | 32 => ⟨S3x512x6912, .f32⟩
  | 33 => ⟨S3x512x6912, .f32⟩
  | 34 => ⟨S_, .f32⟩
  | 35 => ⟨S3x512x6912, .f32⟩
  | 36 => ⟨S3x512x6912, .f32⟩
  | 37 => ⟨S3x512x6912, .i32⟩
  | 38 => ⟨S3x512x6912, .i8⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_14 : Ref sig .tc := ⟨.hbm, 78, rfl⟩
abbrev main_v56 : Ref sig .tc := ⟨.hbm, 79, rfl⟩
abbrev main_v57 : Ref sig .tc := ⟨.hbm, 80, rfl⟩
abbrev main_c_15 : Ref sig .tc := ⟨.hbm, 81, rfl⟩
abbrev main_v58 : Ref sig .tc := ⟨.hbm, 82, rfl⟩
abbrev main_v59 : Ref sig .tc := ⟨.hbm, 83, rfl⟩
abbrev main_c_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_17 : Ref sig .tc := ⟨.hbm, 90, rfl⟩
abbrev main_v65 : Ref sig .tc := ⟨.hbm, 91, rfl⟩
abbrev main_v66 : Ref sig .tc := ⟨.hbm, 92, rfl⟩
abbrev main_c_18 : Ref sig .tc := ⟨.hbm, 93, rfl⟩
abbrev main_v67 : Ref sig .tc := ⟨.hbm, 94, rfl⟩
abbrev main_v68 : Ref sig .tc := ⟨.hbm, 95, rfl⟩
abbrev main_c_19 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_20 : Ref sig .tc := ⟨.hbm, 102, rfl⟩
abbrev main_v74 : Ref sig .tc := ⟨.hbm, 103, rfl⟩
abbrev main_v75 : Ref sig .tc := ⟨.hbm, 104, rfl⟩
abbrev main_c_21 : Ref sig .tc := ⟨.hbm, 105, rfl⟩
abbrev main_v76 : Ref sig .tc := ⟨.hbm, 106, rfl⟩
abbrev main_v77 : Ref sig .tc := ⟨.hbm, 107, rfl⟩
abbrev main_c_22 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_call0_cst : Ref sig .tc := ⟨.hbm, 119, rfl⟩
abbrev main_call0_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_25 : Ref sig .tc := ⟨.hbm, 141, rfl⟩
abbrev main_v105 : Ref sig .tc := ⟨.hbm, 142, rfl⟩
abbrev main_cst_26 : Ref sig .tc := ⟨.hbm, 143, rfl⟩
abbrev main_v106 : Ref sig .tc := ⟨.hbm, 144, rfl⟩
abbrev main_v107 : Ref sig .tc := ⟨.hbm, 145, rfl⟩
abbrev main_cst_27 : Ref sig .tc := ⟨.hbm, 146, rfl⟩
abbrev main_v108 : Ref sig .tc := ⟨.hbm, 147, rfl⟩
abbrev main_v109 : Ref sig .tc := ⟨.hbm, 148, rfl⟩
abbrev main_cst_28 : Ref sig .tc := ⟨.hbm, 149, rfl⟩
abbrev main_call1_v0 : Ref sig .tc := ⟨.hbm, 150, rfl⟩
abbrev main_call1_v1 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_29 : Ref sig .tc := ⟨.hbm, 157, rfl⟩
abbrev main_cst_30 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩

abbrev nD : Nat := 1
abbrev τ : Topo := Topo.v7x

variable {F : FTy → Type} [FloatOps F]
-- ==== Down.lean ====
abbrev S_ : Shape := ⟨0, ![]⟩
abbrev S3x512x6912 : Shape := ⟨3, ![3, 512, 6912]⟩
abbrev S3x512 : Shape := ⟨2, ![3, 512]⟩
abbrev S3x512x2560 : Shape := ⟨3, ![3, 512, 2560]⟩
abbrev S6912x640 : Shape := ⟨2, ![6912, 640]⟩
abbrev S1 : Shape := ⟨1, ![1]⟩
abbrev S1x512x6912 : Shape := ⟨3, ![1, 512, 6912]⟩
abbrev S1x512x2560 : Shape := ⟨3, ![1, 512, 2560]⟩
abbrev S512x6912 : Shape := ⟨2, ![512, 6912]⟩
abbrev S1x512 : Shape := ⟨2, ![1, 512]⟩
abbrev S128x512 : Shape := ⟨2, ![128, 512]⟩
abbrev S512x128 : Shape := ⟨2, ![512, 128]⟩
abbrev S6912x128 : Shape := ⟨2, ![6912, 128]⟩
abbrev S1728x128 : Shape := ⟨2, ![1728, 128]⟩
abbrev S1x512x128 : Shape := ⟨3, ![1, 512, 128]⟩

abbrev nBuf : Space → Nat
  | .hbm => 7
  | .vmem => 9
  | .smem => 1
  | _ => 0

abbrev bufTy : (tb : Table) → Fin (tcTables nBuf tb) → BufTy
  | .hbm, ⟨0, _⟩ => ⟨S_, .f32⟩
  | .hbm, ⟨1, _⟩ => ⟨S3x512x6912, .i8⟩
  | .hbm, ⟨2, _⟩ => ⟨S3x512, .f32⟩
  | .hbm, ⟨3, _⟩ => ⟨S3x512x2560, .f32⟩
  | .hbm, ⟨4, _⟩ => ⟨S6912x640, .i8⟩
  | .hbm, ⟨5, _⟩ => ⟨S1, .f32⟩
  | .hbm, ⟨6, _⟩ => ⟨S3x512x2560, .bf16⟩
  | .local _ .vmem, ⟨0, _⟩ => ⟨S1x512x6912, .i8⟩
  | .local _ .vmem, ⟨1, _⟩ => ⟨S1x512x6912, .i8⟩
  | .local _ .vmem, ⟨2, _⟩ => ⟨S3x512, .f32⟩
  | .local _ .vmem, ⟨3, _⟩ => ⟨S1x512x2560, .f32⟩
  | .local _ .vmem, ⟨4, _⟩ => ⟨S1x512x2560, .f32⟩
  | .local _ .vmem, ⟨5, _⟩ => ⟨S6912x640, .i8⟩
  | .local _ .vmem, ⟨6, _⟩ => ⟨S1x512x2560, .bf16⟩
  | .local _ .vmem, ⟨7, _⟩ => ⟨S1x512x2560, .bf16⟩
  | .local _ .vmem, ⟨8, _⟩ => ⟨S512x6912, .bf16⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![3], ![false]⟩

def k0_off1 (i : grid0.Coords) : Fin 2 → Nat :=
  let arg0 : BitVec 32 := BitVec.ofNat 32 (i 0).val
  let v6 : Index := Scalar.indexCast arg0
  let c0_4 : Index := 0#32
  ![v6.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x6912 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6912x640 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S_ : Shape := ⟨0, ![]⟩
abbrev S3x512x6912 : Shape := ⟨3, ![3, 512, 6912]⟩
abbrev S3x512 : Shape := ⟨2, ![3, 512]⟩
abbrev S3x512x2560 : Shape := ⟨3, ![3, 512, 2560]⟩
abbrev S6912x640 : Shape := ⟨2, ![6912, 640]⟩
abbrev S3x512x640 : Shape := ⟨3, ![3, 512, 640]⟩
abbrev S3x512x1 : Shape := ⟨3, ![3, 512, 1]⟩

abbrev nBuf : Space → Nat
  | .hbm => 63
  | .vmem => 0
  | .smem => 0
  | _ => 0

abbrev bufTy : (tb : Table) → Fin (tcTables nBuf tb) → BufTy
  | .hbm, ⟨0, _⟩ => ⟨S_, .f32⟩
  | .hbm, ⟨1, _⟩ => ⟨S3x512x6912, .i8⟩
  | .hbm, ⟨2, _⟩ => ⟨S3x512, .f32⟩
  | .hbm, ⟨3, _⟩ => ⟨S3x512x2560, .f32⟩
  | .hbm, ⟨4, _⟩ => ⟨S6912x640, .i8⟩
  | .hbm, ⟨5, _⟩ => ⟨S3x512x6912, .i32⟩
  | .hbm, ⟨6, _⟩ => ⟨S3x512x6912, .bf16⟩
  | .hbm, ⟨7, _⟩ => ⟨S6912x640, .i32⟩
  | .hbm, ⟨8, _⟩ => ⟨S_, .i32⟩
  | .hbm, ⟨9, _⟩ => ⟨S6912x640, .i32⟩
  | .hbm, ⟨10, _⟩ => ⟨S6912x640, .i32⟩
  | .hbm, ⟨11, _⟩ => ⟨S_, .i32⟩
  | .hbm, ⟨12, _⟩ => ⟨S6912x640, .i32⟩
  | .hbm, ⟨13, _⟩ => ⟨S6912x640, .i32⟩
  | .hbm, ⟨14, _⟩ => ⟨S_, .i32⟩
  | .hbm, ⟨15, _⟩ => ⟨S6912x640, .i32⟩
  | .hbm, ⟨16, _⟩ => ⟨S6912x640, .i32⟩
  | .hbm, ⟨17, _⟩ => ⟨S6912x640, .bf16⟩
  | .hbm, ⟨18, _⟩ => ⟨S3x512x640, .f32⟩
  | .hbm, ⟨19, _⟩ => ⟨S6912x640, .i32⟩
  | .hbm, ⟨20, _⟩ => ⟨S_, .i32⟩
  | .hbm, ⟨21, _⟩ => ⟨S6912x640, .i32⟩
  | .hbm, ⟨22, _⟩ => ⟨S6912x640, .i32⟩
  | .hbm, ⟨23, _⟩ => ⟨S_, .i32⟩
  | .hbm, ⟨24, _⟩ => ⟨S6912x640, .i32⟩
  | .hbm, ⟨25, _⟩ => ⟨S6912x640, .i32⟩
  | .hbm, ⟨26, _⟩ => ⟨S_, .i32⟩
  | .hbm, ⟨27, _⟩ => ⟨S6912x640, .i32⟩
  | .hbm, ⟨28, _⟩ => ⟨S6912x640, .i32⟩
  | .hbm, ⟨29, _⟩ => ⟨S6912x640, .bf16⟩
  | .hbm, ⟨30, _⟩ => ⟨S3x512x640, .f32⟩
  | .hbm, ⟨31, _⟩ => ⟨S6912x640, .i32⟩
  | .hbm, ⟨32, _⟩ => ⟨S_, .i32⟩
  | .hbm, ⟨33, _⟩ => ⟨S6912x640, .i32⟩
  | .hbm, ⟨34, _⟩ => ⟨S6912x640, .i32⟩
  | .hbm, ⟨35, _⟩ => ⟨S_, .i32⟩
  | .hbm, ⟨36, _⟩ => ⟨S6912x640, .i32⟩
  | .hbm, ⟨37, _⟩ => ⟨S6912x640, .i32⟩
  | .hbm, ⟨38, _⟩ => ⟨S_, .i32⟩
  | .hbm, ⟨39, _⟩ => ⟨S6912x640, .i32⟩
  | .hbm, ⟨40, _⟩ => ⟨S6912x640, .i32⟩
  | .hbm, ⟨41, _⟩ => ⟨S6912x640, .bf16⟩
  | .hbm, ⟨42, _⟩ => ⟨S3x512x640, .f32⟩
  | .hbm, ⟨43, _⟩ => ⟨S6912x640, .i32⟩
  | .hbm, ⟨44, _⟩ => ⟨S_, .i32⟩
  | .hbm, ⟨45, _⟩ => ⟨S6912x640, .i32⟩
  | .hbm, ⟨46, _⟩ => ⟨S6912x640, .i32⟩
  | .hbm, ⟨47, _⟩ => ⟨S_, .i32⟩
  | .hbm, ⟨48, _⟩ => ⟨S6912x640, .i32⟩
  | .hbm, ⟨49, _⟩ => ⟨S6912x640, .i32⟩
  | .hbm, ⟨50, _⟩ => ⟨S_, .i32⟩
  | .hbm, ⟨51, _⟩ => ⟨S6912x640, .i32⟩
  | .hbm, ⟨52, _⟩ => ⟨S6912x640, .i32⟩
  | .hbm, ⟨53, _⟩ => ⟨S6912x640, .bf16⟩
  | .hbm, ⟨54, _⟩ => ⟨S3x512x640, .f32⟩
  | .hbm, ⟨55, _⟩ => ⟨S3x512x2560, .f32⟩
  | .hbm, ⟨56, _⟩ => ⟨S3x512x1, .f32⟩
  | .hbm, ⟨57, _⟩ => ⟨S3x512x2560, .f32⟩
  | .hbm, ⟨58, _⟩ => ⟨S3x512x2560, .f32⟩
  | .hbm, ⟨59, _⟩ => ⟨S3x512x2560, .f32⟩
  | .hbm, ⟨60, _⟩ => ⟨S3x512x2560, .f32⟩
  | .hbm, ⟨61, _⟩ => ⟨S3x512x2560, .f32⟩
  | .hbm, ⟨62, _⟩ => ⟨S3x512x2560, .bf16⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.Ternary.lean ====
/- Packed ternary weights.  A byte holds four two-bit fields, field `f` at bits `2f` and `2f + 1`; the weight is the
   field minus one.  The kernel takes a field out of four bytes at once: it reads four rows of bytes as one row of
   32-bit words, shifts the words right, masks them and reads them as bytes again.  The reference widens every byte
   and takes the field out of it alone.  Both give `trit`. -/
module

public import Idealize.ShloMosaic.Lib.BitcastFour
public import Idealize.ShloMosaic.Lib.Pointwise
public import Idealize.ShloMosaic.Lib.Pointwise.IndexBridge

@[expose] public section

noncomputable section

namespace Cert.Proof.Ternary

open Idealize.ShloMosaic

/-- Field `f` of a packed byte. -/
def field (f : ℕ) (b : BitVec 8) : BitVec 8 := (b >>> (2 * f)) &&& 3#8

/-- The ternary weight in field `f` of a packed byte. -/
def trit (f : ℕ) (b : BitVec 8) : EReal := ((((field f b).toInt - 1 : ℤ) : ℝ) : EReal)

/-- One row of codes times one column of packed weights. -/
def dot {K : ℕ} (f : ℕ) (c w : Fin K → BitVec 8) : EReal := ∑ k, (((c k).toInt : ℝ) : EReal) * trit f (w k)

/-- Bit `q` of the mask `0x03030303`: the two lowest of every byte. -/
theorem mask_getLsbD : ∀ q : Fin 32, (50529027#32).getLsbD q.val = decide (q.val % 8 < 2) := by decide +kernel

/-- The four-at-once extraction of field `f`, read at a byte. -/
theorem bytes_apply {R r n : ℕ} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (f : ℕ) (hf : f < 4) (y : (⟨2, ![r, n]⟩ : Shape).Idx → BitVec 32)
    (hy : ∀ j, y j = (bitcast ⟨2, ![r, n]⟩ 32 x h j >>> (2 * f)) &&& 50529027#32) (p : Fin R) (l : Fin n) :
    bitcast ⟨2, ![R, n]⟩ 8 y h' (ix2 p l) = field f (x (ix2 p l)) := by
  apply BitVec.eq_of_getLsbD_eq
  intro i hi
  rw [bitcast_getLsbD y h' _ i hi (by decide)]
  have hrow : (⟨2, ![R, n]⟩ : Shape).row (ix2 p l) = p.val := rfl
  have hp4 : p.val / 4 < r := by have := p.isLt; omega
  have hj : h'.srcIdx (ix2 p l) (((⟨2, ![R, n]⟩ : Shape).row (ix2 p l) * 8 + i) / 32) (fun a ha =>
          (Nat.div_lt_iff_lt_mul (by decide)).2 (h'.pos_lt (ix2 p l) i hi a ha)) = ix2 ⟨p.val / 4, hp4⟩ l := by
    funext c
    match c with
    | ⟨0, _⟩ => exact Fin.ext ((h'.srcIdx_row _ _ _ ⟨0, Nat.zero_lt_two⟩ rfl).trans (by rw [hrow]; show _ = p.val / 4; omega))
    | ⟨1, _⟩ => exact Fin.ext (h'.srcIdx_other _ _ _ ⟨1, Nat.one_lt_two⟩ (by show ¬ 1 + 2 = 2; omega))
  rw [hj, hy, hrow, BitVec.getLsbD_and, BitVec.getLsbD_ushiftRight]
  have hm : (50529027#32).getLsbD ((p.val * 8 + i) % 32) = decide (i < 2) := by
    rw [mask_getLsbD ⟨(p.val * 8 + i) % 32, by omega⟩]
    congr 1
    show ((p.val * 8 + i) % 32 % 8 < 2) = _
    exact propext (by constructor <;> intro h <;> omega)
  have h3 : (3#8).getLsbD i = decide (i < 2) := by
    have : ∀ i : Fin 8, (3#8).getLsbD i.val = decide (i.val < 2) := by decide
    exact this ⟨i, hi⟩
  rw [hm]
  unfold field
  rw [BitVec.getLsbD_and, BitVec.getLsbD_ushiftRight, h3]
  by_cases h2 : i < 2
  · rw [ix2_eq_valueIdx, ix2_eq_valueIdx,
      bitcast_8_32_getLsbD_ix2 x h ⟨p.val / 4, hp4⟩ l (2 * f + (p.val * 8 + i) % 32) (by omega) p
        (by show p.val = 4 * (p.val / 4) + _; omega)]
    congr 2
    omega
  · simp [h2]

/-- Words shifted right by `2 f` and masked, read at one word. -/
theorem word_apply {s : Shape} (u : IVec s 32) (f : ℕ) (hf : f < 4) (j : s.Idx) :
    andi (shrui u (broadcast s (BitVec.ofNat 32 (2 * f)))) (broadcast s 50529027#32) j = (u j >>> (2 * f)) &&& 50529027#32 := by
  show IntOp.andi (IntOp.shrui .vector (u j) (BitVec.ofNat 32 (2 * f))) 50529027#32 = _
  generalize u j = w
  match f, hf with
  | 0, _ => rfl
  | 1, _ => rfl
  | 2, _ => rfl
  | 3, _ => rfl

/-- The kernel's weight: the byte as a signed integer, less one. -/
theorem trit_kernel (f : ℕ) (b : BitVec 8) : (((field f b).toInt : ℝ) : EReal) - 1 = trit f b := by
  unfold trit
  rw [Int.cast_sub, EReal.coe_sub, Int.cast_one, EReal.coe_one]

/-- The reference's weight: the byte widened to 32 bits, shifted, masked, less one, as a signed integer. -/
theorem trit_reference (f : Fin 4) (b : BitVec 8) :
    ((((IntOp.subi (IntOp.andi (IntOp.shrsi .host (b.setWidth 32) (BitVec.ofNat 32 (2 * f.val))) 3#32) 1#32).toInt : ℝ)) : EReal)
      = trit f.val b := by
  have h : ∀ (f : Fin 4) (b : BitVec 8),
      (IntOp.subi (IntOp.andi (IntOp.shrsi .host (b.setWidth 32) (BitVec.ofNat 32 (2 * f.val))) 3#32) 1#32).toInt
        = (field f.val b).toInt - 1 := by decide +kernel
  unfold trit
  rw [h]

/-- A byte widened with its sign is the same integer. -/
theorem toInt_code (b : BitVec 8) : (b.signExtend 32).toInt = b.toInt := BitVec.toInt_signExtend_of_le (by decide)

end Cert.Proof.Ternary

end
-- ==== Proof.DownValue.lean ====
module

public import proofs.«01_k».proof.Proof.Ternary
public import proofs.«01_k».proof.Proof.Gen.DownIdeal.Value

@[expose] public section

set_option maxRecDepth 16384

noncomputable section

namespace Cert.Proof.DownValue

open Idealize.ShloMosaic Idealize.ShloMosaic.TcCoe Idealize.SL.Sem Cert.DownIdeal Cert.DownIdeal.Gen
open Cert.Proof.Ternary

/-- One output tile: the residual tile plus the product of the codes with the `f`-th fields of a tile of packed weights,
    by the rows' scales and the weights' scale. -/
def tile (w : IVec S6912x128 8) (cb : FVec Ideal S512x6912 .bf16) (sc : FVec Ideal S512x128 .f32) (s : Ideal .f32)
    (h : FVec Ideal S1x512x128 .f32) : FVec Ideal S1x512x128 .bf16 :=
  shapeCast S1x512x128 (truncf .bf16 (addf (shapeCast S512x128 h shapeCasts_S1x512x128_S512x128)
    (mulf (mulf (matmul dot_S512x6912_S6912x128_S512x128_1_0_0_1_n_n none cb
        (subf (sitofp .bf16 w) (broadcast S6912x128 (Scalar.ofBits .bf16 0x3F80#16)))
        (constant S512x128 .f32 0x00000000#32)) sc) (broadcast S512x128 s))) bitsLt_bf16_f32) shapeCasts_S512x128_S1x512x128

theorem tile_apply (f : ℕ) (w : IVec S6912x128 8) (b : IVec S6912x128 8) (hw : ∀ j, w j = field f (b j)) (c : IVec S512x6912 8)
    (sc : FVec Ideal S512x128 .f32) (s : Ideal .f32)
    (h : FVec Ideal S1x512x128 .f32) (z : Fin 1) (r : Fin 512) (l : Fin 128) :
    tile w (sitofp .bf16 c) sc s h (ix3 z r l)
      = h (ix3 0 r l) + dot f (fun k => c (ix2 r k)) (fun k => b (ix2 k l)) * sc (ix2 r l) * s := by
  unfold tile dot
  pointwise
  simp only [hw, ← trit_kernel]
  rfl

/-- The block the body writes for one batch row. -/
def G (b : Fin 3) (x0 : Vec Ideal S1 .f32) (x1 : Vec Ideal S1x512x6912 .i8) (x2 : Vec Ideal S3x512 .f32) (x3 : Vec Ideal S1x512x2560 .f32)
    (x4 : Vec Ideal S6912x640 .i8) : Vec Ideal S1x512x2560 .bf16 := fun j =>
  x3 (ix3 0 (j 1) (j 2))
    + dot ((j 2).val / 640) (fun k => x1 (ix3 0 (j 1) k)) (fun k => x4 (ix2 k ⟨(j 2).val % 640, Nat.mod_lt _ (by omega)⟩))
      * x2 (ix2 b (j 1)) * x0 (ix1 0)

/-- The row of codes of the batch row at hand. -/
def codes (x1 : Vec Ideal S1x512x6912 .i8) : IVec S512x6912 8 := fun j => x1 (ix3 0 (j 0) (j 1))

/-- The rows' scales of the batch row at hand, along the lanes. -/
def scales (b : Fin 3) (x2 : Vec Ideal S3x512 .f32) : FVec Ideal S512x128 .f32 := fun j => x2 (ix2 b (j 0))

theorem v19_eq (c : Dev nD) (arg2 : Memref sig .tc .vmem S1x512x6912 .i8) (harg2 : arg2.IsWhole) (arg7 : Memref sig .tc .vmem S512x6912 .bf16)
    (x1 : Vec Ideal S1x512x6912 .i8) :
    kernelRun0_A.sl.v19 (F := Ideal) c arg2 harg2 arg7 x1 = (sitofp .bf16 (codes x1) : FVec Ideal S512x6912 .bf16) := by
  unfold kernelRun0_A.sl.v19 kernelRun0_A.sl.HS0_1
  simp only [View.readAt_eq_ld, harg2.read_unread]
  refine (View.readCov_unit_zero _ (by decide) _ _).trans ?_
  funext j
  idx_vars j
  unfold codes
  pointwise! [k0_pay2]

theorem r_eq (c : Dev nD) (arg1 : Memref sig .tc .smem S1 .f32) (harg1 : arg1.IsWhole) (x0 : Vec Ideal S1 .f32) :
    kernelRun0_A.sl.r (F := Ideal) c arg1 harg1 x0 = x0 (ix1 0) := by
  unfold kernelRun0_A.sl.r
  simp only [View.readAt_eq_ld, harg1.read_unread]
  pointwise

theorem pay3_eq (i : grid0.Coords) (x2 : Vec Ideal S3x512 .f32) (inb) :
    k0_pay3 (F := Ideal) (View.ld x2 (Rect.unit (k0_off1 i) ![1, 512] inb)) = scales (i 0) x2 := by
  funext j
  idx_vars j
  unfold scales
  pointwise! [k0_pay3]
  refine congrArg x2 (congrArg₂ ix2 (Fin.ext ?_) (Fin.ext ?_))
  · have hi : (i 0).val < 3 := (i 0).isLt
    show (BitVec.ofNat 32 (i 0).val).toNat = (i 0).val
    rw [BitVec.toNat_ofNat]
    omega
  · unfold k0_off1
    simp

theorem r_1_eq (c : Dev nD) (i : grid0.Coords) (arg3 : Memref sig .tc .vmem S3x512 .f32) (harg3 : arg3.IsWhole) (x2 : Vec Ideal S3x512 .f32) :
    kernelRun0_A.sl.r_1 (F := Ideal) c i arg3 harg3 x2 = scales (i 0) x2 := by
  unfold kernelRun0_A.sl.r_1
  simp only [View.readAt_eq_ld, harg3.read_unread]
  exact pay3_eq ..

theorem tile_piece (b : Fin 3) (x0 : Vec Ideal S1 .f32) (x1 : Vec Ideal S1x512x6912 .i8) (x2 : Vec Ideal S3x512 .f32) (x3 : Vec Ideal S1x512x2560 .f32)
    (x4 : Vec Ideal S6912x640 .i8) (f g : ℕ) (hf : f < 4) (hg : g < 5) (o n : ℕ) (ho : o = g * 128) (hn : n = f * 640 + g * 128) (inb4) (inb3) (inb5)
    (w : IVec S6912x128 8) (y : IVec S1728x128 32) (h' : S1728x128.Bitcasts 32 S6912x128 8) (hw : w = bitcast S6912x128 8 y h')
    (hy : ∀ j, y j = (bitcast S1728x128 32 (View.ld x4 (Rect.unit ![0, o] ![6912, 128] inb4) : IVec S6912x128 8) bitcasts_S6912x128_w8_S1728x128_w32 j >>> (2 * f)) &&& 50529027#32)
    (x : S1x512x128.Idx) :
    tile w (sitofp .bf16 (codes x1)) (scales b x2) (x0 (ix1 0)) (View.ld x3 (Rect.unit ![0, 0, n] ![1, 512, 128] inb3)) x
      = G b x0 x1 x2 x3 x4 ((Rect.unit (s := S1x512x2560) ![0, 0, n] ![1, 512, 128] inb5).emb x) := by
  idx_vars x
  subst ho hn
  rw [tile_apply f w (View.ld x4 (Rect.unit ![0, g * 128] ![6912, 128] inb4) : IVec S6912x128 8)]
  · have e1 : (Rect.unit (s := S1x512x2560) ![0, 0, f * 640 + g * 128] ![1, 512, 128] inb5).emb (ix3 x0 x1 x2)
        = ix3 0 x1 ⟨f * 640 + g * 128 + x2.val, by omega⟩ := by
      funext a
      match a with
      | ⟨0, _⟩ => exact Fin.ext (by show 0 + 1 * x0.val = 0; omega)
      | ⟨1, _⟩ => exact Fin.ext (by show 0 + 1 * x1.val = x1.val; omega)
      | ⟨2, _⟩ => exact Fin.ext (by show f * 640 + g * 128 + 1 * x2.val = f * 640 + g * 128 + x2.val; omega)
    have e2 : (f * 640 + g * 128 + x2.val) / 640 = f := by omega
    have e3 : (f * 640 + g * 128 + x2.val) % 640 = g * 128 + x2.val := by omega
    rw [e1]
    unfold G codes scales
    pointwise
    simp only [e2, e3, Nat.zero_add]
  · intro j
    idx_vars j
    rw [hw]
    exact bytes_apply _ _ _ rfl f hf y hy _ _

/-- The piece written for field 0, whose words are not shifted. -/
theorem piece_zero (b : Fin 3) (x0 : Vec Ideal S1 .f32) (x1 : Vec Ideal S1x512x6912 .i8) (x2 : Vec Ideal S3x512 .f32) (x3 : Vec Ideal S1x512x2560 .f32)
    (x4 : Vec Ideal S6912x640 .i8) (g : ℕ) (hg : g < 5) (o n : ℕ) (ho : o = g * 128) (hn : n = g * 128) (inb4) (inb3) (inb5) (x : S1x512x128.Idx) :
    tile (bitcast S6912x128 8 (andi (bitcast S1728x128 32 (View.ld x4 (Rect.unit ![0, o] ![6912, 128] inb4) : IVec S6912x128 8) bitcasts_S6912x128_w8_S1728x128_w32)
        (broadcast S1728x128 50529027#32)) bitcasts_S1728x128_w32_S6912x128_w8)
      (sitofp .bf16 (codes x1)) (scales b x2) (x0 (ix1 0)) (View.ld x3 (Rect.unit ![0, 0, n] ![1, 512, 128] inb3)) x
      = G b x0 x1 x2 x3 x4 ((Rect.unit (s := S1x512x2560) ![0, 0, n] ![1, 512, 128] inb5).emb x) :=
  tile_piece b x0 x1 x2 x3 x4 0 g (by decide) hg o n ho (by omega) inb4 inb3 inb5 _ _ _ rfl (fun _ => rfl) x

/-- The piece written for a field `f` whose words are shifted right. -/
theorem piece_shift (b : Fin 3) (x0 : Vec Ideal S1 .f32) (x1 : Vec Ideal S1x512x6912 .i8) (x2 : Vec Ideal S3x512 .f32) (x3 : Vec Ideal S1x512x2560 .f32)
    (x4 : Vec Ideal S6912x640 .i8) (f g : ℕ) (hf : f < 4) (hg : g < 5) (o n : ℕ) (ho : o = g * 128) (hn : n = f * 640 + g * 128) (inb4) (inb3) (inb5)
    (q : BitVec 32) (hq : q = BitVec.ofNat 32 (2 * f)) (x : S1x512x128.Idx) :
    tile (bitcast S6912x128 8 (andi (shrui (bitcast S1728x128 32 (View.ld x4 (Rect.unit ![0, o] ![6912, 128] inb4) : IVec S6912x128 8) bitcasts_S6912x128_w8_S1728x128_w32)
        (broadcast S1728x128 q)) (broadcast S1728x128 50529027#32)) bitcasts_S1728x128_w32_S6912x128_w8)
      (sitofp .bf16 (codes x1)) (scales b x2) (x0 (ix1 0)) (View.ld x3 (Rect.unit ![0, 0, n] ![1, 512, 128] inb3)) x
      = G b x0 x1 x2 x3 x4 ((Rect.unit (s := S1x512x2560) ![0, 0, n] ![1, 512, 128] inb5).emb x) := by
  refine tile_piece b x0 x1 x2 x3 x4 f g hf hg o n ho hn inb4 inb3 inb5 _ _ _ rfl ?_ x
  intro j
  subst hq
  exact word_apply _ f hf j

theorem pieces_eq (c : Dev nD) (i : grid0.Coords) (arg1 : Memref sig .tc .smem S1 .f32) (harg1 : arg1.IsWhole) (arg2 : Memref sig .tc .vmem S1x512x6912 .i8) (harg2 : arg2.IsWhole) (arg3 : Memref sig .tc .vmem S3x512 .f32) (harg3 : arg3.IsWhole) (arg4 : Memref sig .tc .vmem S1x512x2560 .f32) (harg4 : arg4.IsWhole) (arg5 : Memref sig .tc .vmem S6912x640 .i8) (harg5 : arg5.IsWhole) (arg6 : Memref sig .tc .vmem S1x512x2560 .bf16) (harg6 : arg6.IsWhole) (arg7 : Memref sig .tc .vmem S512x6912 .bf16) (harg7 : arg7.IsWhole)
    (x0 : Vec Ideal S1 .f32) (x1 : Vec Ideal S1x512x6912 .i8) (x2 : Vec Ideal S3x512 .f32) (x3 : Vec Ideal S1x512x2560 .f32) (x4 : Vec Ideal S6912x640 .i8) :
    ∀ p ∈ (kernelRun0_A (F := Ideal) c i arg1 harg1 arg2 harg2 arg3 harg3 arg4 harg4 arg5 harg5 arg6 harg6 arg7 harg7 x0 x1 x2 x3 x4).1,
      ∀ x, p.2 x = G (i 0) x0 x1 x2 x3 x4 (p.1.emb x) := by
  unfold kernelRun0_A
  simp only [List.forall_mem_cons, List.forall_mem_nil, and_true]
  simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [View.readAt_eq_ld, harg4.read_unread, harg5.read_unread, harg3.read_unread, v19_eq, r_eq, r_1_eq, pay3_eq]
  refine ⟨fun x => ?g34, fun x => ?g33, fun x => ?g32, fun x => ?g31, fun x => ?g30, fun x => ?g24, fun x => ?g23, fun x => ?g22, fun x => ?g21, fun x => ?g20, fun x => ?g14, fun x => ?g13, fun x => ?g12, fun x => ?g11, fun x => ?g10, fun x => ?g04, fun x => ?g03, fun x => ?g02, fun x => ?g01, fun x => ?g00, by simp⟩
  case g34 => exact piece_shift (i 0) x0 x1 x2 x3 x4 3 4 (by decide) (by decide) 512 2432 rfl rfl _ _ _ 6#32 rfl x
  case g33 => exact piece_shift (i 0) x0 x1 x2 x3 x4 3 3 (by decide) (by decide) 384 2304 rfl rfl _ _ _ 6#32 rfl x
  case g32 => exact piece_shift (i 0) x0 x1 x2 x3 x4 3 2 (by decide) (by decide) 256 2176 rfl rfl _ _ _ 6#32 rfl x
  case g31 => exact piece_shift (i 0) x0 x1 x2 x3 x4 3 1 (by decide) (by decide) 128 2048 rfl rfl _ _ _ 6#32 rfl x
  case g30 => exact piece_shift (i 0) x0 x1 x2 x3 x4 3 0 (by decide) (by decide) 0 1920 rfl rfl _ _ _ 6#32 rfl x
  case g24 => exact piece_shift (i 0) x0 x1 x2 x3 x4 2 4 (by decide) (by decide) 512 1792 rfl rfl _ _ _ 4#32 rfl x
  case g23 => exact piece_shift (i 0) x0 x1 x2 x3 x4 2 3 (by decide) (by decide) 384 1664 rfl rfl _ _ _ 4#32 rfl x
  case g22 => exact piece_shift (i 0) x0 x1 x2 x3 x4 2 2 (by decide) (by decide) 256 1536 rfl rfl _ _ _ 4#32 rfl x
  case g21 => exact piece_shift (i 0) x0 x1 x2 x3 x4 2 1 (by decide) (by decide) 128 1408 rfl rfl _ _ _ 4#32 rfl x
  case g20 => exact piece_shift (i 0) x0 x1 x2 x3 x4 2 0 (by decide) (by decide) 0 1280 rfl rfl _ _ _ 4#32 rfl x
  case g14 => exact piece_shift (i 0) x0 x1 x2 x3 x4 1 4 (by decide) (by decide) 512 1152 rfl rfl _ _ _ 2#32 rfl x
  case g13 => exact piece_shift (i 0) x0 x1 x2 x3 x4 1 3 (by decide) (by decide) 384 1024 rfl rfl _ _ _ 2#32 rfl x
  case g12 => exact piece_shift (i 0) x0 x1 x2 x3 x4 1 2 (by decide) (by decide) 256 896 rfl rfl _ _ _ 2#32 rfl x
  case g11 => exact piece_shift (i 0) x0 x1 x2 x3 x4 1 1 (by decide) (by decide) 128 768 rfl rfl _ _ _ 2#32 rfl x
  case g10 => exact piece_shift (i 0) x0 x1 x2 x3 x4 1 0 (by decide) (by decide) 0 640 rfl rfl _ _ _ 2#32 rfl x
  case g04 => exact piece_zero (i 0) x0 x1 x2 x3 x4 4 (by decide) 512 512 rfl rfl _ _ _ x
  case g03 => exact piece_zero (i 0) x0 x1 x2 x3 x4 3 (by decide) 384 384 rfl rfl _ _ _ x
  case g02 => exact piece_zero (i 0) x0 x1 x2 x3 x4 2 (by decide) 256 256 rfl rfl _ _ _ x
  case g01 => exact piece_zero (i 0) x0 x1 x2 x3 x4 1 (by decide) 128 128 rfl rfl _ _ _ x
  case g00 => exact piece_zero (i 0) x0 x1 x2 x3 x4 0 (by decide) 0 0 rfl rfl _ _ _ x

end Cert.Proof.DownValue

end
-- ==== Proof.DownFinal.lean ====
module

public import proofs.«01_k».proof.Proof.DownValue
public import proofs.«01_k».proof.Proof.Gen.DownReferenceIdeal.Run
public import proofs.«01_k».proof.Proof.Gen.DownReferenceIdeal.Read
public import proofs.«01_k».proof.Defs
public import Idealize.ShloMosaic.Lib.Pipeline.ValueKit
public import Idealize.ShloMosaic.Lib.Claim

@[expose] public section

set_option maxRecDepth 16384

noncomputable section

namespace Cert.Proof.DownValue

open Idealize.ShloMosaic Idealize.ShloMosaic.Pipeline Idealize.ShloMosaic.TcCoe Idealize.SL.Sem Cert.DownIdeal Cert.DownIdeal.Gen
open Cert.Proof.Ternary

/-- The result: the residual stream plus the down projection of the codes, by the rows' scales and the weights' scale. -/
def out (s : Vec Ideal S_ .f32) (c4 : Vec Ideal S3x512x6912 .i8) (a4 : Vec Ideal S3x512 .f32) (h : Vec Ideal S3x512x2560 .f32)
    (w : Vec Ideal S6912x640 .i8) : Vec Ideal S3x512x2560 .bf16 := fun j =>
  h (ix3 (j 0) (j 1) (j 2))
    + dot ((j 2).val / 640) (fun k => c4 (ix3 (j 0) (j 1) k)) (fun k => w (ix2 k ⟨(j 2).val % 640, Nat.mod_lt _ (by omega)⟩))
      * a4 (ix2 (j 0) (j 1)) * s ix0

variable (m : (ℓ : Loc nD τ sig) → Buf (Elt Ideal) ℓ)

/-- The windows' block indices at every grid point. -/
theorem idx : ∀ t : Fin cfg0.N, win0_0.index t = ![0] ∧ win0_1.index t = ![(grid0.coords t 0).val, 0, 0] ∧ win0_2.index t = ![0, 0]
    ∧ win0_3.index t = ![(grid0.coords t 0).val, 0, 0] ∧ win0_4.index t = ![0, 0] ∧ win0_5.index t = ![(grid0.coords t 0).val, 0, 0] :=
  (by decide +kernel : ∀ t : Fin grid0.N, _)

/-- The scale's one-element array, made from the scalar argument before the call. -/
theorem v0_apply (c : Dev nD) (j : S1.Idx) : V m c main_v0 j = m ((c : Thread nD τ).loc main_arg0) ix0 := by
  have : V m c main_v0 = broadcastInDim S1 ![] bcast_S_S1 (m ((c : Thread nD τ).loc main_arg0)) := by
    unfold V hostOps0
    after_results_simp
  rw [this]
  pointwise

/-- The array the kernel leaves is `out` of its arguments. -/
theorem final (c : Dev nD) : (dats (F := Ideal) m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have hv : outsAt0 m c t = G (grid0.coords t 0) (iblk m c 0 t) (iblk m c 1 t) (iblk m c 2 t) (iblk m c 3 t) (iblk m c 4 t) := by
    unfold outsAt0 out0_A_5
    rw [View.read_writes_junk_eq_canon]
    funext y
    refine View.canon_apply_of_pieces _ _ ?_ y (cover0_A_5 ..)
    exact fun p hp x => pieces_eq _ _ _ _ _ _ _ _ _ _ _ _ _ _ _ _ _ _ _ _ _ p hp x
  rw [hv]
  obtain ⟨e0, e1, e2, e3, e4, e5⟩ := idx t
  unfold G out
  idx_vars y
  have h5 : (win0_5.blk t).view.emb (ix3 y0 y1 y2) = ix3 (grid0.coords t 0) y1 y2 := by blk_ext [e5]
  have h0 : iblk m c 0 t (ix1 0) = m ((c : Thread nD τ).loc main_arg0) ix0 := by
    blk_simp [iblk]
    exact v0_apply m c _
  have h1 : ∀ k, iblk m c 1 t (ix3 0 y1 k) = m ((c : Thread nD τ).loc main_arg1) (ix3 (grid0.coords t 0) y1 k) := by
    intro k
    blk_simp [iblk]
    rw [V_main_arg1]
    exact congrArg _ (by blk_ext [e1])
  have h2 : iblk m c 2 t (ix2 (grid0.coords t 0) y1) = m ((c : Thread nD τ).loc main_arg2) (ix2 (grid0.coords t 0) y1) := by
    blk_simp [iblk]
    rw [V_main_arg2]
    exact congrArg _ (by blk_ext [e2])
  have h3 : iblk m c 3 t (ix3 0 y1 y2) = m ((c : Thread nD τ).loc main_arg3) (ix3 (grid0.coords t 0) y1 y2) := by
    blk_simp [iblk]
    rw [V_main_arg3]
    exact congrArg _ (by blk_ext [e3])
  have h4 : ∀ k l, iblk m c 4 t (ix2 k l) = m ((c : Thread nD τ).loc main_arg4) (ix2 k l) := by
    intro k l
    blk_simp [iblk]
    rw [V_main_arg4]
    exact congrArg _ (by blk_ext [e4])
  rw [h5]
  pointwise
  simp only [h0, h1, h2, h3, h4]

open Cert.DownReferenceIdeal.Read in
/-- Field `0` of the reference's product. -/
theorem dot_0 (c4 : Vec Ideal S3x512x6912 .i8) (w : Vec Ideal S6912x640 .i8) (b : Fin 3) (r : Fin 512) (l : Fin 640) :
    Cert.DownReferenceIdeal.Read.val_main_v10 (F := Ideal) c4 w (ix3 b r l) = dot 0 (fun k => c4 (ix3 b r k)) (fun k => w (ix2 k l)) := by
  rw [Cert.DownReferenceIdeal.Read.val_main_v10_apply]
  refine Finset.sum_congr rfl fun k _ => ?_
  have el : lidx_main_v10 (ix3 b r l) k = ix3 b r k := by
    funext a
    match a with
    | ⟨0, _⟩ => rfl
    | ⟨1, _⟩ => rfl
    | ⟨2, _⟩ => rfl
  have er : ridx_main_v10 (ix3 b r l) k = ix2 k l := by
    funext a
    match a with
    | ⟨0, _⟩ => rfl
    | ⟨1, _⟩ => rfl
  rw [el, er]
  rw [← toInt_code]
  refine congrArg₂ (· * ·) ?_ ((trit_reference 0 (w (ix2 k l))).symm.trans ?_).symm
  · rw [val_main_v1_apply, val_main_v0_apply]
    rfl
  · simp only [val_main_v9_apply, val_main_v8_apply, val_main_v7_apply, val_main_v6_apply, val_main_v5_apply, val_main_v4_apply, val_main_v3_apply, val_main_v2_apply, val_main_c_apply, val_main_c_0_apply, val_main_c_1_apply]
    rfl

open Cert.DownReferenceIdeal.Read in
/-- Field `1` of the reference's product. -/
theorem dot_1 (c4 : Vec Ideal S3x512x6912 .i8) (w : Vec Ideal S6912x640 .i8) (b : Fin 3) (r : Fin 512) (l : Fin 640) :
    Cert.DownReferenceIdeal.Read.val_main_v19 (F := Ideal) c4 w (ix3 b r l) = dot 1 (fun k => c4 (ix3 b r k)) (fun k => w (ix2 k l)) := by
  rw [Cert.DownReferenceIdeal.Read.val_main_v19_apply]
  refine Finset.sum_congr rfl fun k _ => ?_
  have el : lidx_main_v19 (ix3 b r l) k = ix3 b r k := by
    funext a
    match a with
    | ⟨0, _⟩ => rfl
    | ⟨1, _⟩ => rfl
    | ⟨2, _⟩ => rfl
  have er : ridx_main_v19 (ix3 b r l) k = ix2 k l := by
    funext a
    match a with
    | ⟨0, _⟩ => rfl
    | ⟨1, _⟩ => rfl
  rw [el, er]
  rw [← toInt_code]
  refine congrArg₂ (· * ·) ?_ ((trit_reference 1 (w (ix2 k l))).symm.trans ?_).symm
  · rw [val_main_v1_apply, val_main_v0_apply]
    rfl
  · simp only [val_main_v18_apply, val_main_v17_apply, val_main_v16_apply, val_main_v15_apply, val_main_v14_apply, val_main_v13_apply, val_main_v12_apply, val_main_v11_apply, val_main_c_2_apply, val_main_c_3_apply, val_main_c_4_apply]
    rfl

open Cert.DownReferenceIdeal.Read in
/-- Field `2` of the reference's product. -/
theorem dot_2 (c4 : Vec Ideal S3x512x6912 .i8) (w : Vec Ideal S6912x640 .i8) (b : Fin 3) (r : Fin 512) (l : Fin 640) :
    Cert.DownReferenceIdeal.Read.val_main_v28 (F := Ideal) c4 w (ix3 b r l) = dot 2 (fun k => c4 (ix3 b r k)) (fun k => w (ix2 k l)) := by
  rw [Cert.DownReferenceIdeal.Read.val_main_v28_apply]
  refine Finset.sum_congr rfl fun k _ => ?_
  have el : lidx_main_v28 (ix3 b r l) k = ix3 b r k := by
    funext a
    match a with
    | ⟨0, _⟩ => rfl
    | ⟨1, _⟩ => rfl
    | ⟨2, _⟩ => rfl
  have er : ridx_main_v28 (ix3 b r l) k = ix2 k l := by
    funext a
    match a with
    | ⟨0, _⟩ => rfl
    | ⟨1, _⟩ => rfl
  rw [el, er]
  rw [← toInt_code]
  refine congrArg₂ (· * ·) ?_ ((trit_reference 2 (w (ix2 k l))).symm.trans ?_).symm
  · rw [val_main_v1_apply, val_main_v0_apply]
    rfl
  · simp only [val_main_v27_apply, val_main_v26_apply, val_main_v25_apply, val_main_v24_apply, val_main_v23_apply, val_main_v22_apply, val_main_v21_apply, val_main_v20_apply, val_main_c_5_apply, val_main_c_6_apply, val_main_c_7_apply]
    rfl

open Cert.DownReferenceIdeal.Read in
/-- Field `3` of the reference's product. -/
theorem dot_3 (c4 : Vec Ideal S3x512x6912 .i8) (w : Vec Ideal S6912x640 .i8) (b : Fin 3) (r : Fin 512) (l : Fin 640) :
    Cert.DownReferenceIdeal.Read.val_main_v37 (F := Ideal) c4 w (ix3 b r l) = dot 3 (fun k => c4 (ix3 b r k)) (fun k => w (ix2 k l)) := by
  rw [Cert.DownReferenceIdeal.Read.val_main_v37_apply]
  refine Finset.sum_congr rfl fun k _ => ?_
  have el : lidx_main_v37 (ix3 b r l) k = ix3 b r k := by
    funext a
    match a with
    | ⟨0, _⟩ => rfl
    | ⟨1, _⟩ => rfl
    | ⟨2, _⟩ => rfl
  have er : ridx_main_v37 (ix3 b r l) k = ix2 k l := by
    funext a
    match a with
    | ⟨0, _⟩ => rfl
    | ⟨1, _⟩ => rfl
  rw [el, er]
  rw [← toInt_code]
  refine congrArg₂ (· * ·) ?_ ((trit_reference 3 (w (ix2 k l))).symm.trans ?_).symm
  · rw [val_main_v1_apply, val_main_v0_apply]
    rfl
  · simp only [val_main_v36_apply, val_main_v35_apply, val_main_v34_apply, val_main_v33_apply, val_main_v32_apply, val_main_v31_apply, val_main_v30_apply, val_main_v29_apply, val_main_c_8_apply, val_main_c_9_apply, val_main_c_10_apply]
    rfl

/-- Four arrays joined along the last axis, read at an index: the part the index lies in. -/
theorem concat_apply (y0 y1 y2 y3 : FVec Ideal Cert.DownReferenceIdeal.S3x512x640 .f32) (h) (b : Fin 3) (r : Fin 512) (n : Fin 2560)
    (D : ℕ → Fin 640 → EReal) (h0 : ∀ l, y0 (ix3 b r l) = D 0 l) (h1 : ∀ l, y1 (ix3 b r l) = D 1 l)
    (h2 : ∀ l, y2 (ix3 b r l) = D 2 l) (h3 : ∀ l, y3 (ix3 b r l) = D 3 l) :
    concatenate Cert.DownReferenceIdeal.S3x512x2560 2
      [⟨DownReferenceIdeal.S3x512x640, y0⟩, ⟨DownReferenceIdeal.S3x512x640, y1⟩, ⟨DownReferenceIdeal.S3x512x640, y2⟩,
        ⟨DownReferenceIdeal.S3x512x640, y3⟩] h (ix3 b r n) = D (n.val / 640) ⟨n.val % 640, Nat.mod_lt _ (by omega)⟩ := by
  have e : ∀ (f g : ℕ) (l l' : Fin 640), f = g → l.val = l'.val → D f l = D g l' := fun f g l l' hf hl => congrArg₂ D hf (Fin.ext hl)
  pointwise
  simp only [h0, h1, h2, h3]
  split_ifs <;> (refine e _ _ _ _ ?_ ?_ <;> (try simp only []) <;> omega)

open Cert.DownReferenceIdeal.Read in
/-- The reference's result is `out` of its arguments. -/
theorem reference_eq (s : Vec Ideal S_ .f32) (c4 : Vec Ideal S3x512x6912 .i8) (a4 : Vec Ideal S3x512 .f32) (h : Vec Ideal S3x512x2560 .f32)
    (w : Vec Ideal S6912x640 .i8) : val_main_v45 (F := Ideal) s c4 a4 h w = out s c4 a4 h w := by
  funext j
  idx_vars j
  rw [val_main_v45_apply, val_main_v44_apply, val_main_v43_apply, val_main_v42_apply, val_main_v41_apply, val_main_v40_apply, val_main_v39_apply]
  unfold val_main_v38 out
  have hc := concat_apply (val_main_v10 c4 w) (val_main_v19 c4 w) (val_main_v28 c4 w) (val_main_v37 c4 w)
    DownReferenceIdeal.Gen.concatenates_S3x512x640_S3x512x640_S3x512x640_S3x512x640_S3x512x2560_d2 j0 j1 j2
    (fun f l => dot f (fun k => c4 (ix3 j0 j1 k)) (fun k => w (ix2 k l))) (dot_0 c4 w j0 j1) (dot_1 c4 w j0 j1) (dot_2 c4 w j0 j1) (dot_3 c4 w j0 j1)
  have ea : idx_main_v39 (idx_main_v40 (ix3 j0 j1 j2)) = ix2 j0 j1 := by
    funext a
    match a with
    | ⟨0, _⟩ => rfl
    | ⟨1, _⟩ => rfl
  have es : idx_main_v42 (ix3 j0 j1 j2) = ix0 := funext fun a => a.elim0
  rw [ea, es]
  exact congrArg (fun d : EReal => h (ix3 j0 j1 j2) + d * a4 (ix2 j0 j1) * s ix0) hc

/-- The kernel and the reference leave the same array. -/
theorem algebraic : Cert.algebraic_DownIdeal_DownReferenceIdeal := by
  intro m g m' g' _ hagree
  refine ⟨fun c => out (m ((c : Thread nD τ).loc main_arg0)) (m ((c : Thread nD τ).loc main_arg1)) (m ((c : Thread nD τ).loc main_arg2))
    (m ((c : Thread nD τ).loc main_arg3)) (m ((c : Thread nD τ).loc main_arg4)), ?_, ?_⟩
  · exact (θ_run _ _ _).mono (fun r h c => ⟨(h c).1.trans (final m c), (h c).2⟩) (Cert.DownIdeal.Value.run_blocks m g)
  · refine (θ_run _ _ _).mono (fun r h c => ⟨((h c).1.trans (Cert.DownReferenceIdeal.Read.val_main_v45_eq ..)).trans ?_, (h c).2⟩)
      (Cert.DownReferenceIdeal.Value.run m' g')
    obtain ⟨a0, a1, a2, a3, a4⟩ := hagree c
    rw [reference_eq, a0, a1, a2, a3, a4]

end Cert.Proof.DownValue

end
-- ==== Proof.GateUpBits.lean ====
/- The frame of the call `gateup` on bits: the kernel runs, ends with every semaphore at zero and leaves its arguments as
   they were. What it computes is not stated here: the output windows are forgotten. The text follows the frame
   certificate the proof generator writes for such a kernel. -/
module

public import proofs.«01_k».proof.Proof.Gen.GateUp.Frame
public import proofs.«01_k».proof.Proof.Gen.GateUp.Launch
public import proofs.«01_k».proof.Proof.Gen.GateUp.Skeleton
public import proofs.«01_k».proof.Proof.Gen.GateUp.Loops
public import proofs.«01_k».proof.Proof.Gen.GateUp.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.GateUpBits

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_GateUp`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1728x2560 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1728x2560 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6912 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x6912 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x2560 .bf16 := Memref.whole cc0_scratch0
abbrev scM0_1 : Memref sig .tc .vmem S27x512x256 .f32 := Memref.whole cc0_scratch1
abbrev scM0_2 : Memref sig .tc .vmem S512x128 .f32 := Memref.whole cc0_scratch2
abbrev scM0_3 : Memref sig .tc .vmem S512x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 1000000 in
/-- The body's triple: on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S2 .f32) (harg1 : arg1.IsWhole) (arg2 : Memref sig .tc .vmem S1x512x2560 .i8) (harg2 : arg2.IsWhole) (arg3 : Memref sig .tc .vmem S3x512 .f32) (harg3 : arg3.IsWhole) (arg4 : Memref sig .tc .vmem S1728x2560 .i8) (harg4 : arg4.IsWhole) (arg5 : Memref sig .tc .vmem S1728x2560 .i8) (harg5 : arg5.IsWhole) (arg6 : Memref sig .tc .vmem S1x6912 .f32) (harg6 : arg6.IsWhole) (arg7 : Memref sig .tc .vmem S3x512 .f32) (harg7 : arg7.IsWhole) (arg8 : Memref sig .tc .vmem S1x512x6912 .i8) (harg8 : arg8.IsWhole) (arg9 : Memref sig .tc .vmem S3x512 .f32) (harg9 : arg9.IsWhole) (arg10 : Memref sig .tc .vmem S512x2560 .bf16) (harg10 : arg10.IsWhole) (arg11 : Memref sig .tc .vmem S27x512x256 .f32) (harg11 : arg11.IsWhole) (arg12 : Memref sig .tc .vmem S512x128 .f32) (harg12 : arg12.IsWhole) (arg13 : Memref sig .tc .vmem S512x128 .f32) (harg13 : arg13.IsWhole)
    (x0 : Vec F S2 .f32) (x1 : Vec F S1x512x2560 .i8) (x2 : Vec F S3x512 .f32) (x3 : Vec F S1728x2560 .i8) (x4 : Vec F S1728x2560 .i8) (x5 : Vec F S1x6912 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gateup i arg1 harg1 arg2 harg2 arg3 harg3 arg4 harg4 arg5 harg5 arg6 harg6 arg7 harg7 arg8 harg8 arg9 harg9 arg10 harg10 arg11 harg11 arg12 harg12 arg13 harg13) K := by
    intro E K
    simp only [cc0_gateup_eq_skeleton]; unfold cc0_gateup_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: every argument array ends as it began, and every semaphore counter at zero, at any `F` — Proof.lean cites
    it at `Bits` for `Cert.quiescent_GateUp` (Defs.lean). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.GateUpBits

end
-- ==== Proof.GateUpTile.lean ====
/- One trip of the kernel's first loop: 256 columns of `relu(gate)^2 * up`, from eight tiles of 32 packed weight rows
   per matrix.  Tile `i` of trip `k` is the `8 k + i`-th group of 32 columns; group `g` lies in field `g / 54` of the
   packed rows `32 (g % 54) .. + 31`. -/
module

public import proofs.«01_k».proof.Proof.Ternary
public import proofs.«01_k».proof.Proof.Gen.GateUpIdeal.Loops
public import Idealize.ShloMosaic.Lib.Pipeline.ValueKit

@[expose] public section

set_option maxRecDepth 16384

noncomputable section

namespace Cert.Proof.GateUpTile

open Idealize.ShloMosaic Idealize.ShloMosaic.TcCoe Idealize.SL.Sem Cert.GateUpIdeal Cert.GateUpIdeal.Gen
open Idealize.ShloMosaic.Pipeline
open Cert.Proof.Ternary

/-- The packed row that holds column `32 g + p`. -/
def prow (g : ℕ) (p : Fin 32) : Fin 1728 := ⟨(g % 54) * 32 + p.val, by have := p.isLt; omega⟩

/-- The weights of column `32 g + p`, along the contracted axis. -/
def wt (X : Vec Ideal S1728x2560 .i8) (g : ℕ) (p : Fin 32) (l : Fin 2560) : EReal := trit (g / 54) (X (ix2 (prow g p) l))

theorem decode (X : Vec Ideal S1728x2560 .i8) (k : Fin k0_t1_loop.trips) (a : ℕ) (ha : a < 8) (o : Fin 2 → ℕ) (ho : o = ![((8 * k.val + a) % 54) * 32, 0])
    (inb) (s : BitVec 32)
    (hs : s = BitVec.ofNat 32 (2 * ((8 * k.val + a) / 54))) (p : Fin 32) (l : Fin 2560) :
    (subf (sitofp .bf16 (bitcast S32x2560 8 (andi (shrui (bitcast S8x2560 32 (shapeCast S32x2560 (View.ld (e' := .i8) (Val := Elt Ideal) X (Rect.unit (s := S1728x2560) o S32x2560.size inb) : IVec S32x2560 8) shapeCasts_S32x2560_S32x2560)
        bitcasts_S32x2560_w8_S8x2560_w32) (broadcast S8x2560 s)) (broadcast S8x2560 50529027#32)) bitcasts_S8x2560_w32_S32x2560_w8))
      (broadcast S32x2560 (Scalar.ofBits .bf16 0x3F80#16)) : FVec Ideal S32x2560 .bf16) (ix2 p l) = wt X (8 * k.val + a) p l := by
  have hk : k.val < 27 := Nat.lt_of_lt_of_le k.isLt k0_t1_abs.2.1
  subst ho hs
  pointwise
  refine (congrArg (fun b : BitVec 8 => (((b.toInt : ℝ)) : EReal) - 1) (bytes_apply (R := 32) (r := 8) (n := 2560) _ _ _ rfl ((8 * k.val + a) / 54) (by omega) _
    (fun j => word_apply (s := S8x2560) _ _ (by omega) j) p l)).trans ?_
  refine (trit_kernel _ _).trans ?_
  unfold wt prow
  pointwise

theorem off2 : ∀ (k : Fin k0_t1_loop.trips) (a : Fin 8), k0_off2 k (BitVec.ofNat 32 a.val) = ![((8 * k.val + a.val) % 54) * 32, 0] := by decide +kernel

section Tiles

variable (w : Memref sig .tc .vmem S1728x2560 .i8) (hw : w.IsWhole) (X : Vec Ideal S1728x2560 .i8) (k : Fin k0_t1_loop.trips) (p : Fin 32) (l : Fin 2560)

theorem gate0 : trip_k0_t1.sl.r_1 (F := Ideal) w (hw.unread X) k (ix2 p l) = wt X (8 * k.val + 0) p l := by
  unfold trip_k0_t1.sl.r_1 k0_pay9
  simp only [View.readAt_eq_ld, hw.read_unread]
  exact decode X k 0 (by decide) _ (off2 k 0) _ _ (by revert k; decide +kernel) p l

theorem gate1 : trip_k0_t1.sl.r_2 (F := Ideal) w (hw.unread X) k (ix2 p l) = wt X (8 * k.val + 1) p l := by
  unfold trip_k0_t1.sl.r_2 k0_pay10
  simp only [View.readAt_eq_ld, hw.read_unread]
  exact decode X k 1 (by decide) _ (off2 k 1) _ _ (by revert k; decide +kernel) p l

theorem gate2 : trip_k0_t1.sl.r_3 (F := Ideal) w (hw.unread X) k (ix2 p l) = wt X (8 * k.val + 2) p l := by
  unfold trip_k0_t1.sl.r_3 k0_pay11
  simp only [View.readAt_eq_ld, hw.read_unread]
  exact decode X k 2 (by decide) _ (off2 k 2) _ _ (by revert k; decide +kernel) p l

theorem gate3 : trip_k0_t1.sl.r_4 (F := Ideal) w (hw.unread X) k (ix2 p l) = wt X (8 * k.val + 3) p l := by
  unfold trip_k0_t1.sl.r_4 k0_pay12
  simp only [View.readAt_eq_ld, hw.read_unread]
  exact decode X k 3 (by decide) _ (off2 k 3) _ _ (by revert k; decide +kernel) p l

theorem gate4 : trip_k0_t1.sl.r_5 (F := Ideal) w (hw.unread X) k (ix2 p l) = wt X (8 * k.val + 4) p l := by
  unfold trip_k0_t1.sl.r_5 k0_pay13
  simp only [View.readAt_eq_ld, hw.read_unread]
  exact decode X k 4 (by decide) _ (off2 k 4) _ _ (by revert k; decide +kernel) p l

theorem gate5 : trip_k0_t1.sl.r_7 (F := Ideal) w (hw.unread X) k (ix2 p l) = wt X (8 * k.val + 5) p l := by
  unfold trip_k0_t1.sl.r_7 trip_k0_t1.sl.r_6 k0_pay14 k0_pay15
  simp only [View.readAt_eq_ld, hw.read_unread]
  exact decode X k 5 (by decide) _ (off2 k 5) _ _ (by revert k; decide +kernel) p l

theorem up0 : trip_k0_t1.sl.r_11 (F := Ideal) w (hw.unread X) k (ix2 p l) = wt X (8 * k.val + 0) p l := by
  unfold trip_k0_t1.sl.r_11 k0_pay19
  simp only [View.readAt_eq_ld, hw.read_unread]
  exact decode X k 0 (by decide) _ (off2 k 0) _ _ (by revert k; decide +kernel) p l

theorem up1 : trip_k0_t1.sl.r_12 (F := Ideal) w (hw.unread X) k (ix2 p l) = wt X (8 * k.val + 1) p l := by
  unfold trip_k0_t1.sl.r_12 k0_pay20
  simp only [View.readAt_eq_ld, hw.read_unread]
  exact decode X k 1 (by decide) _ (off2 k 1) _ _ (by revert k; decide +kernel) p l

theorem up2 : trip_k0_t1.sl.r_13 (F := Ideal) w (hw.unread X) k (ix2 p l) = wt X (8 * k.val + 2) p l := by
  unfold trip_k0_t1.sl.r_13 k0_pay21
  simp only [View.readAt_eq_ld, hw.read_unread]
  exact decode X k 2 (by decide) _ (off2 k 2) _ _ (by revert k; decide +kernel) p l

theorem up3 : trip_k0_t1.sl.r_14 (F := Ideal) w (hw.unread X) k (ix2 p l) = wt X (8 * k.val + 3) p l := by
  unfold trip_k0_t1.sl.r_14 k0_pay22
  simp only [View.readAt_eq_ld, hw.read_unread]
  exact decode X k 3 (by decide) _ (off2 k 3) _ _ (by revert k; decide +kernel) p l

theorem up4 : trip_k0_t1.sl.r_15 (F := Ideal) w (hw.unread X) k (ix2 p l) = wt X (8 * k.val + 4) p l := by
  unfold trip_k0_t1.sl.r_15 k0_pay23
  simp only [View.readAt_eq_ld, hw.read_unread]
  exact decode X k 4 (by decide) _ (off2 k 4) _ _ (by revert k; decide +kernel) p l

theorem up5 : trip_k0_t1.sl.r_18 (F := Ideal) w (hw.unread X) k (ix2 p l) = wt X (8 * k.val + 5) p l := by
  unfold trip_k0_t1.sl.r_18 trip_k0_t1.sl.r_16 trip_k0_t1.sl.r_17 k0_pay24 k0_pay25 k0_pay26
  simp only [View.readAt_eq_ld, hw.read_unread]
  exact decode X k 5 (by decide) _ (off2 k 5) _ _ (by revert k; decide +kernel) p l

theorem up6 : trip_k0_t1.sl.r_19 (F := Ideal) w (hw.unread X) k (ix2 p l) = wt X (8 * k.val + 6) p l := by
  unfold trip_k0_t1.sl.r_19 k0_pay27
  simp only [View.readAt_eq_ld, hw.read_unread]
  exact decode X k 6 (by decide) _ (off2 k 6) _ _ (by revert k; decide +kernel) p l

/-- Tile 6 of the gate, whose one is taken off only where the tiles are joined. -/
theorem gate6 : subf (trip_k0_t1.sl.r_8 (F := Ideal) w (hw.unread X) k) (k0_pay17 (F := Ideal)) (ix2 p l) = wt X (8 * k.val + 6) p l := by
  unfold trip_k0_t1.sl.r_8 k0_pay16 k0_pay17
  simp only [View.readAt_eq_ld, hw.read_unread]
  exact decode X k 6 (by decide) _ (off2 k 6) _ _ (by revert k; decide +kernel) p l

end Tiles

theorem prod (cb : FVec Ideal S512x2560 .bf16) (cc : FVec Ideal S256x2560 .bf16) (P : FVec Ideal S512x256 .f32) (s : Ideal .f32) (r : Fin 512) (n : Fin 256) :
    mulf (mulf (matmul dot_S512x2560_S256x2560_S512x256_1_1_0_0_n_n none cb cc (constant S512x256 .f32 0x00000000#32)) P) (broadcast S512x256 s) (ix2 r n)
      = (∑ l, cb (ix2 r l) * cc (ix2 n l)) * P (ix2 r n) * s := by
  pointwise

/-- The product of the codes with eight joined tiles, by the rows' scales and the matrix's scale. -/
theorem joined (cb : FVec Ideal S512x2560 .bf16) (t0 t1 t2 t3 t4 t5 t6 t7 : FVec Ideal S32x2560 .bf16) (W : ℕ → Fin 32 → Fin 2560 → EReal)
    (h0 : ∀ p l, t0 (ix2 p l) = W 0 p l) (h1 : ∀ p l, t1 (ix2 p l) = W 1 p l) (h2 : ∀ p l, t2 (ix2 p l) = W 2 p l) (h3 : ∀ p l, t3 (ix2 p l) = W 3 p l)
    (h4 : ∀ p l, t4 (ix2 p l) = W 4 p l) (h5 : ∀ p l, t5 (ix2 p l) = W 5 p l) (h6 : ∀ p l, t6 (ix2 p l) = W 6 p l) (h7 : ∀ p l, t7 (ix2 p l) = W 7 p l)
    (v7 : Vec Ideal S1x512 .f32) (s : Ideal .f32) (r : Fin 512) (n : Fin 256) :
    mulf (mulf (matmul dot_S512x2560_S256x2560_S512x256_1_1_0_0_n_n none cb
        (concatenate S256x2560 0 [⟨S32x2560, t0⟩, ⟨S32x2560, t1⟩, ⟨S32x2560, t2⟩, ⟨S32x2560, t3⟩, ⟨S32x2560, t4⟩, ⟨S32x2560, t5⟩, ⟨S32x2560, t6⟩, ⟨S32x2560, t7⟩]
          concatenates_S32x2560_S32x2560_S32x2560_S32x2560_S32x2560_S32x2560_S32x2560_S32x2560_S256x2560_d0)
        (constant S512x256 .f32 0x00000000#32)) (k0_pay2 v7)) (broadcast S512x256 s) (ix2 r n)
      = (∑ l, cb (ix2 r l) * W (n.val / 32) ⟨n.val % 32, Nat.mod_lt _ (by decide)⟩ l) * v7 (ix2 0 r) * s := by
  have hpay : k0_pay2 (F := Ideal) v7 (ix2 r n) = v7 (ix2 0 r) := by
    unfold k0_pay2
    pointwise
    split_ifs <;> rfl
  have hcat : ∀ l, concatenate S256x2560 0 [⟨S32x2560, t0⟩, ⟨S32x2560, t1⟩, ⟨S32x2560, t2⟩, ⟨S32x2560, t3⟩, ⟨S32x2560, t4⟩, ⟨S32x2560, t5⟩, ⟨S32x2560, t6⟩, ⟨S32x2560, t7⟩]
          concatenates_S32x2560_S32x2560_S32x2560_S32x2560_S32x2560_S32x2560_S32x2560_S32x2560_S256x2560_d0 (ix2 n l)
        = W (n.val / 32) ⟨n.val % 32, Nat.mod_lt _ (by decide)⟩ l := by
    intro l
    have e : ∀ (g g' : ℕ) (p p' : Fin 32), g = g' → p.val = p'.val → W g p l = W g' p' l := by
      intro g g' p p' hg hp
      rw [hg, Fin.ext hp]
    have hn := n.isLt
    pointwise
    simp only [h0, h1, h2, h3, h4, h5, h6, h7]
    split_ifs <;> (refine e _ _ _ _ ?_ ?_ <;> (try simp only []) <;> omega)
  rw [prod, hpay]
  simp only [hcat]

/-- Column `n` of one of the two products, on row `r`: the codes times the column's weights, by the row's scale and the
    matrix's scale. -/
def lin (X : Vec Ideal S1728x2560 .i8) (c : Vec Ideal S1x512x2560 .i8) (a s : EReal) (r : Fin 512) (n : ℕ) : EReal :=
  dot (n / 1728) (fun l => c (ix3 0 r l)) (fun l => X (ix2 ⟨n % 1728, Nat.mod_lt _ (by decide)⟩ l)) * a * s

/-- Column `n` of `relu(gate)^2 * up` on row `r`. -/
def M (x0 : Vec Ideal S2 .f32) (x1 : Vec Ideal S1x512x2560 .i8) (a : Fin 512 → EReal) (x3 x4 : Vec Ideal S1728x2560 .i8) (r : Fin 512) (n : ℕ) : EReal :=
  max (lin x3 x1 (a r) (x0 (ix1 0)) r n) 0 * max (lin x3 x1 (a r) (x0 (ix1 0)) r n) 0 * lin x4 x1 (a r) (x0 (ix1 1)) r n

theorem lin_tile (X : Vec Ideal S1728x2560 .i8) (c : Vec Ideal S1x512x2560 .i8) (cb : FVec Ideal S512x2560 .bf16)
    (hcb : ∀ r l, cb (ix2 r l) = (((c (ix3 0 r l) : BitVec 8).toInt : ℝ) : EReal)) (a s : EReal) (k : ℕ) (r : Fin 512) (n : Fin 256) :
    (∑ l, cb (ix2 r l) * wt X (8 * k + n.val / 32) ⟨n.val % 32, Nat.mod_lt _ (by decide)⟩ l) * a * s = lin X c a s r (256 * k + n.val) := by
  have hn := n.isLt
  unfold lin dot
  refine congrArg (fun d : EReal => d * a * s) (Finset.sum_congr rfl fun l _ => ?_)
  rw [hcb]
  unfold wt prow
  have e1 : (8 * k + n.val / 32) / 54 = (256 * k + n.val) / 1728 := by omega
  have e2 : (8 * k + n.val / 32) % 54 * 32 + n.val % 32 = (256 * k + n.val) % 1728 := by omega
  simp only [e1, e2]

section Trip

variable (arg1 : Memref sig .tc .smem S2 .f32) (h1 : arg1.IsWhole) (w : Memref sig .tc .vmem S1728x2560 .i8) (hw : w.IsWhole)
  (arg10 : Memref sig .tc .vmem S512x2560 .bf16) (v7 : Vec Ideal S1x512 .f32) (x0 : Vec Ideal S2 .f32) (X : Vec Ideal S1728x2560 .i8) (c : Vec Ideal S1x512x2560 .i8)
  (X10 : BufTy.Contents (Elt Ideal) arg10.view.ty)
  (h10 : ∀ r l, trip_k0_t1.sl.r (F := Ideal) arg10 X10 (ix2 r l) = (((c (ix3 0 r l) : BitVec 8).toInt : ℝ) : EReal)) (k : Fin k0_t1_loop.trips) (r : Fin 512) (n : Fin 256)
include h10

theorem gate_eq : trip_k0_t1.sl.r_10 (F := Ideal) arg1 w arg10 v7 (h1.unread x0) (hw.unread X) X10 k (ix2 r n)
    = lin X c (v7 (ix2 0 r)) (x0 (ix1 0)) r (256 * k.val + n.val) := by
  unfold trip_k0_t1.sl.r_10 k0_pay18
  refine (joined _ _ _ _ _ _ _ _ _ (fun i p l => wt X (8 * k.val + i) p l) (gate0 w hw X k) (gate1 w hw X k) (gate2 w hw X k) (gate3 w hw X k) (gate4 w hw X k)
    (gate5 w hw X k) (gate6 w hw X k) (fun p l => ?_) _ _ r n).trans ?_
  · simp only [View.readAt_eq_ld, hw.read_unread]
    exact decode X k 7 (by decide) _ (off2 k 7) _ _ (by revert k; decide +kernel) p l
  · have e : trip_k0_t1.sl.r_9 (F := Ideal) arg1 (h1.unread x0) = x0 (ix1 0) := by
      unfold trip_k0_t1.sl.r_9
      simp only [View.readAt_eq_ld, h1.read_unread]
      pointwise
    rw [e]
    exact lin_tile X c _ h10 _ _ k.val r n

theorem up_eq : trip_k0_t1.sl.r_21 (F := Ideal) arg1 w arg10 v7 (h1.unread x0) (hw.unread X) X10 k (ix2 r n)
    = lin X c (v7 (ix2 0 r)) (x0 (ix1 1)) r (256 * k.val + n.val) := by
  unfold trip_k0_t1.sl.r_21 k0_pay28
  refine (joined _ _ _ _ _ _ _ _ _ (fun i p l => wt X (8 * k.val + i) p l) (up0 w hw X k) (up1 w hw X k) (up2 w hw X k) (up3 w hw X k) (up4 w hw X k)
    (up5 w hw X k) (up6 w hw X k) (fun p l => ?_) _ _ r n).trans ?_
  · simp only [View.readAt_eq_ld, hw.read_unread]
    exact decode X k 7 (by decide) _ (off2 k 7) _ _ (by revert k; decide +kernel) p l
  · have e : trip_k0_t1.sl.r_20 (F := Ideal) arg1 (h1.unread x0) = x0 (ix1 1) := by
      unfold trip_k0_t1.sl.r_20
      simp only [View.readAt_eq_ld, h1.read_unread]
      pointwise
    rw [e]
    exact lin_tile X c _ h10 _ _ k.val r n

end Trip

theorem pay3_apply (g u : FVec Ideal S512x256 .f32) (z : Fin 1) (r : Fin 512) (n : Fin 256) :
    k0_pay3 g u (trip_k0_t1.sl.cst_251 (F := Ideal)) (ix3 z r n) = max (g (ix2 r n)) 0 * max (g (ix2 r n)) 0 * u (ix2 r n) := by
  unfold trip_k0_t1.sl.cst_251
  pointwise! [k0_pay3]

end Cert.Proof.GateUpTile

end
-- ==== Proof.RowQuant.lean ====
/- A row of numbers, normalised and quantised: the reciprocal root of the mean square, the row times that and the gains,
   the scale that takes the largest magnitude to 127, and the codes. -/
module

public import Idealize.ShloMosaic.Lib.Pointwise

@[expose] public section

noncomputable section

namespace Cert.Proof.RowQuant

open Idealize.ShloMosaic

variable {K : ℕ}

/-- One over the root of the mean square, the row's length given as the word `d` of a 32-bit float. -/
def rstd (d : BitVec 32) (m : Fin K → EReal) : EReal :=
  Ideal.rsqrt (Ideal.div (∑ x, m x * m x) (Ideal.ofBits .f32 d) + Ideal.ofBits .f32 0x3727C5AC#32)

/-- The row normalised and multiplied by its gains. -/
def normed (d : BitVec 32) (m g : Fin K → EReal) (n : Fin K) : EReal := m n * rstd d m * g n

/-- The largest magnitude of a row. -/
def amax (v : Fin K → EReal) : EReal :=
  Finset.fold max (Ideal.ofBits .f32 0xFF800000#32) (fun x => FloatOps.absf (F := Ideal) (φ := .f32) (v x)) Finset.univ

/-- The scale of a row: its largest magnitude over 127, and one for a row of zeros. -/
def scale (v : Fin K → EReal) : EReal := if amax v = 0 then 1 else Ideal.div (amax v) (Ideal.ofBits .f32 0x42FE0000#32)

/-- The code of one entry: over the scale, rounded to even, held to -127 .. 127. -/
def code (v : Fin K → EReal) (n : Fin K) : BitVec 8 :=
  FloatOps.fptosi (F := Ideal) (φ := .f32) 8 (min (Ideal.ofBits .f32 0x42FE0000#32)
    (max (Ideal.ofBits .f32 0xC2FE0000#32) (Ideal.liftRound Ideal.roundHalfEven (Ideal.div (v n) (scale v)))))

end Cert.Proof.RowQuant

end
-- ==== Proof.GateUpQuant.lean ====
/- One trip of the kernel's second loop: 32 rows of `relu(gate)^2 * up`, read back from the 27 column tiles the first
   loop wrote, are normalised and quantised. -/
module

public import proofs.«01_k».proof.Proof.Gen.GateUpIdeal.Loops
public import Idealize.ShloMosaic.Lib.Pipeline.ValueKit
public import proofs.«01_k».proof.Proof.RowQuant
public import Idealize.ShloMosaic.Lib.Pointwise
public import Idealize.ShloMosaic.Lib.Pointwise.IndexBridge

@[expose] public section

set_option maxRecDepth 16384

noncomputable section

namespace Cert.Proof.GateUpQuant

open Idealize.ShloMosaic Idealize.ShloMosaic.TcCoe Idealize.SL.Sem Cert.GateUpIdeal Cert.GateUpIdeal.Gen
open Idealize.ShloMosaic.Pipeline Cert.Proof.RowQuant

/-- Tiles of 256 columns side by side, read at column `n`: tile `n / 256` at its column `n % 256`. -/
theorem cat (f : Fin 27 → FVec Ideal S32x256 .f32) (xs : List ((s : Shape) × (s.Idx → EReal)))
    (e : xs = List.ofFn fun i => ⟨S32x256, f i⟩) (hc : Shape.Concatenates (xs.map (·.1)) S32x6912 1) (R : Fin 32 → ℕ → EReal)
    (hf : ∀ (i : Fin 27) (p : Fin 32) (q : Fin 256), f i (ix2 p q) = R p (256 * i.val + q.val)) (p : Fin 32) (n : Fin 6912) :
    concatenate S32x6912 1 xs hc (ix2 p n) = R p n.val := by
  subst e
  have hn := n.isLt
  refine (concatenate_ofFn_apply (t := S32x6912) 1 f hc rfl 256 rfl (ix2 p n) ⟨n.val / 256, by omega⟩ rfl
    (ix2 p ⟨n.val % 256, Nat.mod_lt _ (by omega)⟩) rfl (fun b hb => ?_)).trans ?_
  · match b with
    | ⟨0, _⟩ => rfl
    | ⟨1, _⟩ => exact absurd rfl hb
  · rw [hf]
    exact congrArg (R p) (Nat.div_add_mod _ _)

/-- A unit leading axis dropped. -/
theorem lead_apply (t : Vec Ideal S1x32x256 .f32) (p : Fin 32) (q : Fin 256) :
    shapeCast S32x256 t shapeCasts_S1x32x256_S32x256 (ix2 p q) = t (ix3 0 p q) := by
  pointwise

set_option maxHeartbeats 2000000 in
/-- The 27 column tiles side by side. -/
theorem joined (t0 t1 t2 t3 t4 t5 t6 t7 t8 t9 t10 t11 t12 t13 t14 t15 t16 t17 t18 t19 t20 t21 t22 : FVec Ideal S32x256 .f32) (t23 t24 t25 t26 : Vec Ideal S1x32x256 .f32) (R : Fin 32 → ℕ → EReal)
    (h0 : ∀ p q, t0 (ix2 p q) = R p (0 + q.val))
    (h1 : ∀ p q, t1 (ix2 p q) = R p (256 + q.val))
    (h2 : ∀ p q, t2 (ix2 p q) = R p (512 + q.val))
    (h3 : ∀ p q, t3 (ix2 p q) = R p (768 + q.val))
    (h4 : ∀ p q, t4 (ix2 p q) = R p (1024 + q.val))
    (h5 : ∀ p q, t5 (ix2 p q) = R p (1280 + q.val))
    (h6 : ∀ p q, t6 (ix2 p q) = R p (1536 + q.val))
    (h7 : ∀ p q, t7 (ix2 p q) = R p (1792 + q.val))
    (h8 : ∀ p q, t8 (ix2 p q) = R p (2048 + q.val))
    (h9 : ∀ p q, t9 (ix2 p q) = R p (2304 + q.val))
    (h10 : ∀ p q, t10 (ix2 p q) = R p (2560 + q.val))
    (h11 : ∀ p q, t11 (ix2 p q) = R p (2816 + q.val))
    (h12 : ∀ p q, t12 (ix2 p q) = R p (3072 + q.val))
    (h13 : ∀ p q, t13 (ix2 p q) = R p (3328 + q.val))
    (h14 : ∀ p q, t14 (ix2 p q) = R p (3584 + q.val))
    (h15 : ∀ p q, t15 (ix2 p q) = R p (3840 + q.val))
    (h16 : ∀ p q, t16 (ix2 p q) = R p (4096 + q.val))
    (h17 : ∀ p q, t17 (ix2 p q) = R p (4352 + q.val))
    (h18 : ∀ p q, t18 (ix2 p q) = R p (4608 + q.val))
    (h19 : ∀ p q, t19 (ix2 p q) = R p (4864 + q.val))
    (h20 : ∀ p q, t20 (ix2 p q) = R p (5120 + q.val))
    (h21 : ∀ p q, t21 (ix2 p q) = R p (5376 + q.val))
    (h22 : ∀ p q, t22 (ix2 p q) = R p (5632 + q.val))
    (h23 : ∀ p q, t23 (ix3 0 p q) = R p (5888 + q.val))
    (h24 : ∀ p q, t24 (ix3 0 p q) = R p (6144 + q.val))
    (h25 : ∀ p q, t25 (ix3 0 p q) = R p (6400 + q.val))
    (h26 : ∀ p q, t26 (ix3 0 p q) = R p (6656 + q.val))
    (p : Fin 32) (n : Fin 6912) : k0_pay52 (F := Ideal) t0 t1 t2 t3 t4 t5 t6 t7 t8 t9 t10 t11 t12 t13 t14 t15 t16 t17 t18 t19 t20 t21 t22 t23 t24 t25 t26 (ix2 p n) = R p n.val := by
  unfold k0_pay52
  have hf : ∀ (i : Fin 27) (p : Fin 32) (q : Fin 256),
      (![t0, t1, t2, t3, t4, t5, t6, t7, t8, t9, t10, t11, t12, t13, t14, t15, t16, t17, t18, t19, t20, t21, t22, shapeCast S32x256 t23 shapeCasts_S1x32x256_S32x256, shapeCast S32x256 t24 shapeCasts_S1x32x256_S32x256, shapeCast S32x256 t25 shapeCasts_S1x32x256_S32x256, shapeCast S32x256 t26 shapeCasts_S1x32x256_S32x256] : Fin 27 → FVec Ideal S32x256 .f32) i (ix2 p q) = R p (256 * i.val + q.val) := fun i p q => match i, p, q with
    | ⟨0, _⟩, p, q => h0 p q
    | ⟨1, _⟩, p, q => h1 p q
    | ⟨2, _⟩, p, q => h2 p q
    | ⟨3, _⟩, p, q => h3 p q
    | ⟨4, _⟩, p, q => h4 p q
    | ⟨5, _⟩, p, q => h5 p q
    | ⟨6, _⟩, p, q => h6 p q
    | ⟨7, _⟩, p, q => h7 p q
    | ⟨8, _⟩, p, q => h8 p q
    | ⟨9, _⟩, p, q => h9 p q
    | ⟨10, _⟩, p, q => h10 p q
    | ⟨11, _⟩, p, q => h11 p q
    | ⟨12, _⟩, p, q => h12 p q
    | ⟨13, _⟩, p, q => h13 p q
    | ⟨14, _⟩, p, q => h14 p q
    | ⟨15, _⟩, p, q => h15 p q
    | ⟨16, _⟩, p, q => h16 p q
    | ⟨17, _⟩, p, q => h17 p q
    | ⟨18, _⟩, p, q => h18 p q
    | ⟨19, _⟩, p, q => h19 p q
    | ⟨20, _⟩, p, q => h20 p q
    | ⟨21, _⟩, p, q => h21 p q
    | ⟨22, _⟩, p, q => h22 p q
    | ⟨23, _⟩, p, q => (lead_apply t23 p q).trans (h23 p q)
    | ⟨24, _⟩, p, q => (lead_apply t24 p q).trans (h24 p q)
    | ⟨25, _⟩, p, q => (lead_apply t25 p q).trans (h25 p q)
    | ⟨26, _⟩, p, q => (lead_apply t26 p q).trans (h26 p q)
    | ⟨n + 27, hn⟩, _, _ => absurd hn (by omega)
  exact cat _ _ rfl _ R hf p n

section Row

variable (t0 t1 t2 t3 t4 t5 t6 t7 t8 t9 t10 t11 t12 t13 t14 t15 t16 t17 t18 t19 t20 t21 t22 : FVec Ideal S32x256 .f32) (t23 t24 t25 t26 : Vec Ideal S1x32x256 .f32) (v118 : Vec Ideal S1x6912 .f32) (R : Fin 32 → ℕ → EReal)
    (h : ∀ (p : Fin 32) (n : Fin 6912), k0_pay52 (F := Ideal) t0 t1 t2 t3 t4 t5 t6 t7 t8 t9 t10 t11 t12 t13 t14 t15 t16 t17 t18 t19 t20 t21 t22 t23 t24 t25 t26 (ix2 p n) = R p n.val) (p : Fin 32) (l : Fin 128) (n : Fin 6912)
include h

theorem rstd_apply : k0_pay6 (k0_pay53 (F := Ideal) t0 t1 t2 t3 t4 t5 t6 t7 t8 t9 t10 t11 t12 t13 t14 t15 t16 t17 t18 t19 t20 t21 t22 t23 t24 t25 t26) (ix2 p l) = rstd 0x45D80000#32 (fun n : Fin 6912 => R p n.val) := by
  unfold k0_pay6 k0_pay53 rstd
  generalize k0_pay52 (F := Ideal) t0 t1 t2 t3 t4 t5 t6 t7 t8 t9 t10 t11 t12 t13 t14 t15 t16 t17 t18 t19 t20 t21 t22 t23 t24 t25 t26 = v at h ⊢
  pointwise
  simp only [h]

theorem scale_apply : k0_pay5 (k0_pay55 (F := Ideal) t0 t1 t2 t3 t4 t5 t6 t7 t8 t9 t10 t11 t12 t13 t14 t15 t16 t17 t18 t19 t20 t21 t22 t23 t24 t25 t26 v118) (ix2 p l)
    = scale (normed 0x45D80000#32 (fun n : Fin 6912 => R p n.val) (fun n => v118 (ix2 0 n))) := by
  unfold k0_pay5 k0_pay55 k0_pay54 k0_pay53 scale amax normed rstd
  generalize k0_pay52 (F := Ideal) t0 t1 t2 t3 t4 t5 t6 t7 t8 t9 t10 t11 t12 t13 t14 t15 t16 t17 t18 t19 t20 t21 t22 t23 t24 t25 t26 = v at h ⊢
  pointwise
  simp only [h]

theorem code_apply (z : Fin 1) : k0_pay4 (k0_pay56 (F := Ideal) t0 t1 t2 t3 t4 t5 t6 t7 t8 t9 t10 t11 t12 t13 t14 t15 t16 t17 t18 t19 t20 t21 t22 t23 t24 t25 t26 v118) k0_pay57 (ix3 z p n)
    = code (normed 0x45D80000#32 (fun n : Fin 6912 => R p n.val) (fun n => v118 (ix2 0 n))) n := by
  unfold k0_pay4 k0_pay56 k0_pay55 k0_pay54 k0_pay53 k0_pay57 code scale amax normed rstd
  generalize k0_pay52 (F := Ideal) t0 t1 t2 t3 t4 t5 t6 t7 t8 t9 t10 t11 t12 t13 t14 t15 t16 t17 t18 t19 t20 t21 t22 t23 t24 t25 t26 = v at h ⊢
  pointwise
  simp only [h]

end Row

end Cert.Proof.GateUpQuant

end
-- ==== Proof.GateUpRun.lean ====
/- One grid point of the call `gateup`: the kernel's body run once over any staging buffers. The three output buffers end
   with the pieces the run finds written into them; the pieces are read off in Proof/GateUpPoint.lean. -/
module

public import proofs.«01_k».proof.Proof.Gen.GateUpIdeal.Frame
public import proofs.«01_k».proof.Proof.Gen.GateUpIdeal.Launch
public import proofs.«01_k».proof.Proof.Gen.GateUpIdeal.Skeleton
public import proofs.«01_k».proof.Proof.Gen.GateUpIdeal.Loops
public import proofs.«01_k».proof.Proof.Gen.GateUpIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.GateUpRun

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs at their contents `x0 … x5`, the outputs and the scratch at any contents `f7 … f13`; the
    outputs end at contents the run finds. -/
def run (c : Dev nD) (i : grid0.Coords) (arg1 : Memref sig .tc .smem S2 .f32) (harg1 : arg1.IsWhole) (arg2 : Memref sig .tc .vmem S1x512x2560 .i8) (harg2 : arg2.IsWhole) (arg3 : Memref sig .tc .vmem S3x512 .f32) (harg3 : arg3.IsWhole) (arg4 : Memref sig .tc .vmem S1728x2560 .i8) (harg4 : arg4.IsWhole) (arg5 : Memref sig .tc .vmem S1728x2560 .i8) (harg5 : arg5.IsWhole) (arg6 : Memref sig .tc .vmem S1x6912 .f32) (harg6 : arg6.IsWhole) (arg7 : Memref sig .tc .vmem S3x512 .f32) (harg7 : arg7.IsWhole) (arg8 : Memref sig .tc .vmem S1x512x6912 .i8) (harg8 : arg8.IsWhole) (arg9 : Memref sig .tc .vmem S3x512 .f32) (harg9 : arg9.IsWhole) (arg10 : Memref sig .tc .vmem S512x2560 .bf16) (harg10 : arg10.IsWhole) (arg11 : Memref sig .tc .vmem S27x512x256 .f32) (harg11 : arg11.IsWhole) (arg12 : Memref sig .tc .vmem S512x128 .f32) (harg12 : arg12.IsWhole) (arg13 : Memref sig .tc .vmem S512x128 .f32) (harg13 : arg13.IsWhole)
    (x0 : Vec F S2 .f32) (x1 : Vec F S1x512x2560 .i8) (x2 : Vec F S3x512 .f32) (x3 : Vec F S1728x2560 .i8) (x4 : Vec F S1728x2560 .i8) (x5 : Vec F S1x6912 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    Σ' (g7 : BufTy.Contents (Elt F) arg7.view.ty) (g8 : BufTy.Contents (Elt F) arg8.view.ty), { g9 : BufTy.Contents (Elt F) arg9.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ()))
          ⊢ wp frame (wpE (defs₀ (F := F)) Variants.none c none) E (cc0_gateup i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_gateup_eq_skeleton]; unfold cc0_gateup_skel
    unfold owns
    iintro ⟨⟨%h0, %hh0, H0⟩, ⟨%h1, %hh1, H1⟩, ⟨%h2, %hh2, H2⟩, ⟨%h3, %hh3, H3⟩, ⟨%h4, %hh4, H4⟩, ⟨%h5, %hh5, H5⟩, H7, H8, H9, H10, H11, H12, H13, Hk⟩
    obtain rfl := harg1.eq_unread hh0; obtain rfl := harg2.eq_unread hh1; obtain rfl := harg3.eq_unread hh2; obtain rfl := harg4.eq_unread hh3; obtain rfl := harg5.eq_unread hh4; obtain rfl := harg6.eq_unread hh5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]; · iexact H7
    isplitl [H8]; · iexact H8
    isplitl [H9]; · iexact H9
    isplitl [H10]; · iexists _; iexact H10
    isplitl [H11]; · iexists _; iexact H11
    isplitl [H12]; · iexists _; iexact H12
    iexists _; iexact H13

end Cert.Proof.GateUpRun

end
-- ==== Proof.GateUpPoint.lean ====
/- One grid point of the call `gateup`, read off: what the two loops of one run leave in the buffers.  The first loop fills
   the scratch with `relu(gate)^2 * up`, 256 columns a trip; the second norms and quantises 32 rows a trip. -/
module

public import proofs.«01_k».proof.Proof.GateUpTile
public import proofs.«01_k».proof.Proof.GateUpQuant
public import proofs.«01_k».proof.Proof.GateUpRun
public import Idealize.ShloMosaic.Lib.Writes
public import Idealize.ShloMosaic.Lib.WritesUnit
public import Idealize.ShloMosaic.Lib.VecWindow

@[expose] public section

set_option maxRecDepth 16384

noncomputable section

namespace Cert.Proof.GateUpPoint

open Idealize.ShloMosaic Idealize.ShloMosaic.TcCoe Idealize.SL.Sem Cert.GateUpIdeal Cert.GateUpIdeal.Gen
open Idealize.ShloMosaic.Pipeline
open Cert.Proof.RowQuant Cert.Proof.GateUpTile Cert.Proof.GateUpQuant

theorem trips1 : k0_t1_loop.trips = 27 := by decide
theorem trips2 : k0_t2_loop.trips = 16 := by decide
theorem off1 : ∀ i : grid0.Coords, k0_off1 i = ![(i 0).val, 0] := by decide +kernel
theorem off3 : ∀ k : Fin k0_t1_loop.trips, k0_off3 k = ![k.val, 0, 0] := by decide +kernel
theorem off31 : ∀ k : Fin k0_t2_loop.trips, k0_off31 k = ![0, 32 * k.val, 0] := by decide +kernel
theorem off32 : ∀ k : Fin k0_t2_loop.trips, k0_off32 k = ![32 * k.val, 0] := by decide +kernel

/-- `relu(gate)^2 * up` as the first scratch holds it: 27 tiles of 256 columns. -/
def G11 (x0 : Vec Ideal S2 .f32) (x1 : Vec Ideal S1x512x2560 .i8) (a : Fin 512 → EReal) (x3 x4 : Vec Ideal S1728x2560 .i8) (y : S27x512x256.Idx) : EReal :=
  M x0 x1 a x3 x4 (y 1) (256 * (y 0).val + (y 2).val)

/-- Writes made by the trips of a loop, trip by trip: where every trip's pieces agree with one function, an element some
    trip covers holds the function's value, whatever was there before. -/
theorem pieces {κ : Kind} {sp : Space} {s : Shape} {e : EltTy} (v : View sig κ sp s e) (f : v.ty.Contents (Elt Ideal)) (N : ℕ) (L : ℕ → List (View.Piece (Elt Ideal) s e)) (t : Fin N → List (View.Piece (Elt Ideal) s e))
    (h0 : L 0 = []) (hs : ∀ k : Fin N, L (k.val + 1) = t k ++ L k.val) (G : s.Idx → Elt Ideal e) (ha : ∀ k, ∀ p ∈ t k, ∀ x, p.2 x = G (p.1.emb x)) (y : s.Idx)
    (hc : ∃ k, ∃ p ∈ t k, y ∈ p.1.set) : v.read (Elt Ideal) (v.writes (Elt Ideal) f (L N)) y = G y := by
  have hA : ∀ n ≤ N, ∀ p ∈ L n, ∀ x, p.2 x = G (p.1.emb x) := by
    intro n
    induction n with
    | zero => intro _ p hp; rw [h0] at hp; exact absurd hp List.not_mem_nil
    | succ n ih =>
      intro h p hp
      rw [hs ⟨n, h⟩] at hp
      rcases List.mem_append.mp hp with hp | hp
      · exact ha _ p hp
      · exact ih (Nat.le_of_succ_le h) p hp
  obtain ⟨k, p, hp, hy⟩ := hc
  have hC : ∀ n ≤ N, k.val < n → ∃ p ∈ L n, y ∈ p.1.set := by
    intro n
    induction n with
    | zero => intro _ h; exact absurd h (Nat.not_lt_zero _)
    | succ n ih =>
      intro h hk
      rw [hs ⟨n, h⟩]
      by_cases hn : k.val = n
      · obtain rfl : k = ⟨n, h⟩ := Fin.ext hn
        exact ⟨p, List.mem_append_left _ hp, hy⟩
      · obtain ⟨p', hp', hm⟩ := ih (Nat.le_of_succ_le h) (by omega)
        exact ⟨p', List.mem_append_right _ hp', hm⟩
  exact View.read_writes_apply_of_pieces v f G _ (hA N le_rfl) y (hC N le_rfl k.isLt)

/-- The three results of a row `T` of 6912 numbers. -/
def G8 (T : Fin 512 → ℕ → EReal) (x5 : Vec Ideal S1x6912 .f32) (y : S1x512x6912.Idx) : BitVec 8 :=
  code (normed 0x45D80000#32 (fun n : Fin 6912 => T (y 1) n.val) fun n => x5 (ix2 0 n)) (y 2)
def G12 (T : Fin 512 → ℕ → EReal) (x5 : Vec Ideal S1x6912 .f32) (y : S512x128.Idx) : EReal :=
  scale (normed 0x45D80000#32 (fun n : Fin 6912 => T (y 0) n.val) fun n => x5 (ix2 0 n))
theorem G12_ix (T : Fin 512 → ℕ → EReal) (x5 : Vec Ideal S1x6912 .f32) (r : Fin 512) (l : Fin 128) :
    G12 T x5 (ix2 r l) = scale (normed 0x45D80000#32 (fun n : Fin 6912 => T r n.val) fun n => x5 (ix2 0 n)) := rfl

def G13 (T : Fin 512 → ℕ → EReal) (y : S512x128.Idx) : EReal := rstd 0x45D80000#32 (fun n : Fin 6912 => T (y 0) n.val)

/-- The trip that does row `r`. -/
def tripOf (r : Fin 512) : Fin k0_t2_loop.trips := ⟨r.val / 32, Nat.lt_of_lt_of_le (by have := r.isLt; omega) trips2.ge⟩

theorem emb11 (k : Fin k0_t1_loop.trips) (o : Fin 3 → ℕ) (ho : o = ![k.val, 0, 0]) (inb) (z : Fin 1) (r : Fin 512) (n : Fin 256) :
    (Rect.unit (s := S27x512x256) o S1x512x256.size inb).emb (ix3 z r n) = (ix3 ⟨k.val, Nat.lt_of_lt_of_le k.isLt trips1.le⟩ r n : S27x512x256.Idx) := by
  subst ho
  funext a
  refine Fin.ext ((Rect.idx_unit_val _ _ _ _ a).trans ?_)
  have hz := z.isLt
  match a with
  | 0 => show k.val + z.val = k.val; omega
  | 1 => show 0 + r.val = r.val; omega
  | 2 => show 0 + n.val = n.val; omega

theorem mem11 (y : S27x512x256.Idx) (o : Fin 3 → ℕ) (ho : o = ![(y 0).val, 0, 0]) (inb) : y ∈ (Rect.unit (s := S27x512x256) o S1x512x256.size inb).set := by
  refine Rect.mem_set_unit.2 fun a => ?_
  subst ho
  have h1 : (y 1).val < 512 := (y 1).isLt
  have h2 : (y 2).val < 256 := (y 2).isLt
  match a with
  | 0 => show (y 0).val ≤ (y 0).val ∧ (y 0).val < (y 0).val + 1; omega
  | 1 => show 0 ≤ (y 1).val ∧ (y 1).val < 0 + 512; omega
  | 2 => show 0 ≤ (y 2).val ∧ (y 2).val < 0 + 256; omega

section Loops

variable (𝒱 : Variants) (c : Dev nD) (bd : Option 𝒱.V) (i : grid0.Coords) (arg1 : Memref sig .tc .smem S2 .f32) (harg1 : arg1.IsWhole) (arg2 : Memref sig .tc .vmem S1x512x2560 .i8) (harg2 : arg2.IsWhole) (arg3 : Memref sig .tc .vmem S3x512 .f32) (harg3 : arg3.IsWhole) (arg4 : Memref sig .tc .vmem S1728x2560 .i8) (harg4 : arg4.IsWhole) (arg5 : Memref sig .tc .vmem S1728x2560 .i8) (harg5 : arg5.IsWhole) (arg6 : Memref sig .tc .vmem S1x6912 .f32) (harg6 : arg6.IsWhole) (arg7 : Memref sig .tc .vmem S3x512 .f32) (harg7 : arg7.IsWhole) (arg8 : Memref sig .tc .vmem S1x512x6912 .i8) (harg8 : arg8.IsWhole) (arg9 : Memref sig .tc .vmem S3x512 .f32) (harg9 : arg9.IsWhole) (arg10 : Memref sig .tc .vmem S512x2560 .bf16) (harg10 : arg10.IsWhole) (arg11 : Memref sig .tc .vmem S27x512x256 .f32) (harg11 : arg11.IsWhole) (arg12 : Memref sig .tc .vmem S512x128 .f32) (harg12 : arg12.IsWhole) (arg13 : Memref sig .tc .vmem S512x128 .f32) (harg13 : arg13.IsWhole)

section First

variable (v7 : Vec Ideal S1x512 .f32) (x0 : Vec Ideal S2 .f32) (x1 : Vec Ideal S1x512x2560 .i8) (x3 x4 : Vec Ideal S1728x2560 .i8) (X10 : BufTy.Contents (Elt Ideal) arg10.view.ty)
  (h10 : ∀ r l, trip_k0_t1.sl.r (F := Ideal) arg10 X10 (ix2 r l) = (((x1 (ix3 0 r l) : BitVec 8).toInt : ℝ) : EReal))

include h10 in
theorem agree1 (k : Fin k0_t1_loop.trips) : ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 (harg1.unread x0) (harg4.unread x3) (harg5.unread x4) X10 k,
    ∀ x, p.2 x = G11 x0 x1 (fun r => v7 (ix2 0 r)) x3 x4 (p.1.emb x) := by
  have e : tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 (harg1.unread x0) (harg4.unread x3) (harg5.unread x4) X10 k
      = [⟨Rect.unit (s := S27x512x256) (k0_off3 k) S1x512x256.size (k0_off3_inb k), k0_pay3 (trip_k0_t1.sl.r_10 arg1 arg4 arg10 v7 (harg1.unread x0) (harg4.unread x3) X10 k) (trip_k0_t1.sl.r_21 arg1 arg5 arg10 v7 (harg1.unread x0) (harg5.unread x4) X10 k) trip_k0_t1.sl.cst_251⟩] := by
    unfold tripL_k0_t1 trip_k0_t1; rfl
  rw [e]
  intro q hq x
  obtain rfl := List.mem_singleton.mp hq
  obtain ⟨z, r, n, rfl⟩ : ∃ (z : Fin 1) (r : Fin 512) (n : Fin 256), x = ix3 z r n := ⟨x 0, x 1, x 2, by funext a; match a with | 0 => rfl | 1 => rfl | 2 => rfl⟩
  refine (pay3_apply _ _ z r n).trans ?_
  rw [gate_eq arg1 harg1 arg4 harg4 arg10 v7 x0 x3 x1 X10 h10 k r n, up_eq arg1 harg1 arg5 harg5 arg10 v7 x0 x4 x1 X10 h10 k r n]
  have e1 := emb11 k _ (off3 k) (k0_off3_inb k) z r n
  exact (congrArg (G11 x0 x1 (fun r => v7 (ix2 0 r)) x3 x4) e1).symm

theorem cover1 (X1 : BufTy.Contents (Elt Ideal) arg1.view.ty) (X4 : BufTy.Contents (Elt Ideal) arg4.view.ty) (X5 : BufTy.Contents (Elt Ideal) arg5.view.ty) (k : Fin k0_t1_loop.trips) (y : S27x512x256.Idx) (hy : (y 0).val = k.val) : ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 X1 X4 X5 X10 k, y ∈ p.1.set := by
  have e : tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 X1 X4 X5 X10 k
      = [⟨Rect.unit (s := S27x512x256) (k0_off3 k) S1x512x256.size (k0_off3_inb k), k0_pay3 (trip_k0_t1.sl.r_10 arg1 arg4 arg10 v7 X1 X4 X10 k) (trip_k0_t1.sl.r_21 arg1 arg5 arg10 v7 X1 X5 X10 k) trip_k0_t1.sl.cst_251⟩] := by
    unfold tripL_k0_t1 trip_k0_t1; rfl
  rw [e]
  exact ⟨_, List.mem_cons_self, mem11 y _ (hy ▸ off3 k) (k0_off3_inb k)⟩

include h10 in
/-- The scratch after the first loop. -/
theorem scratch (f : BufTy.Contents (Elt Ideal) arg11.view.ty) (y : S27x512x256.Idx) :
    arg11.view.read (Elt Ideal) (arg11.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 (harg1.unread x0) (harg4.unread x3) (harg5.unread x4) X10 k0_t1_loop.trips)) y
      = G11 x0 x1 (fun r => v7 (ix2 0 r)) x3 x4 y :=
  pieces arg11.view f k0_t1_loop.trips (fun n => pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 (harg1.unread x0) (harg4.unread x3) (harg5.unread x4) X10 n) _ (pb_k0_t1.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v7 _ _ _ X10)
    (fun k => pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 v7 _ _ _ X10 k) _ (fun k => agree1 𝒱 c bd i arg1 harg1 arg2 harg2 arg3 harg3 arg4 harg4 arg5 harg5 arg6 harg6 arg7 harg7 arg8 harg8 arg9 harg9 arg10 harg10 arg11 harg11 arg12 harg12 arg13 harg13 v7 x0 x1 x3 x4 X10 h10 k) y
    ⟨⟨(y 0).val, Nat.lt_of_lt_of_le (y 0).isLt trips1.ge⟩, cover1 𝒱 c bd i arg1 harg1 arg2 harg2 arg3 harg3 arg4 harg4 arg5 harg5 arg6 harg6 arg7 harg7 arg8 harg8 arg9 harg9 arg10 harg10 arg11 harg11 arg12 harg12 arg13 harg13 v7 X10 _ _ _ _ y rfl⟩

end First

section Second

variable (x5 : Vec Ideal S1x6912 .f32) (X11 : BufTy.Contents (Elt Ideal) arg11.view.ty) (T : Fin 512 → ℕ → EReal)
  (h11 : ∀ y : S27x512x256.Idx, arg11.view.read (Elt Ideal) X11 y = T (y 1) (256 * (y 0).val + (y 2).val))

/-- Row `32 k + p` of the second loop's trip `k`. -/
def rowOf (k : Fin k0_t2_loop.trips) (p : Fin 32) : Fin 512 := ⟨32 * k.val + p.val, by have := Nat.lt_of_lt_of_le k.isLt trips2.le; have := p.isLt; omega⟩

include h11 in
theorem tile_raw (k : Fin k0_t2_loop.trips) (t : Fin 27) (o : Fin 3 → ℕ) (ho : o = ![t.val, 32 * k.val, 0]) (inb) (m : ℕ) (hm : m = 256 * t.val) (z : Fin 1) (p : Fin 32) (q : Fin 256) :
    View.readAt (Elt Ideal) arg11.view (Rect.unit (s := S27x512x256) o S1x32x256.size inb).toLoadRect X11 (ix3 z p q) = T (rowOf k p) (m + q.val) := by
  subst hm
  rw [View.readAt_eq_ld]
  have hk : k.val < 16 := Nat.lt_of_lt_of_le k.isLt trips2.le
  have hz := z.isLt; have hp := p.isLt
  refine (View.ld_unit_apply_of (S := S27x512x256) (Val := Elt Ideal) _ o S1x32x256.size inb (ix3 z p q) (ix3 t (rowOf k p) q : S27x512x256.Idx) fun a => ?_).trans (h11 _)
  subst ho
  match a with
  | 0 => show t.val = t.val + z.val; omega
  | 1 => show 32 * k.val + p.val = 32 * k.val + p.val; rfl
  | 2 => show q.val = 0 + q.val; omega

include h11 in
theorem tile (k : Fin k0_t2_loop.trips) (t : Fin 27) (o : Fin 3 → ℕ) (ho : o = ![t.val, 32 * k.val, 0]) (inb) (m : ℕ) (hm : m = 256 * t.val) (p : Fin 32) (q : Fin 256) :
    shapeCast S32x256 (View.readAt (Elt Ideal) arg11.view (Rect.unit (s := S27x512x256) o S1x32x256.size inb).toLoadRect X11) shapeCasts_S1x32x256_S32x256 (ix2 p q) = T (rowOf k p) (m + q.val) :=
  (lead_apply _ p q).trans (tile_raw arg11 X11 T h11 k t o ho inb m hm 0 p q)

theorem off4 : ∀ k : Fin k0_t2_loop.trips, k0_off4 k = ![0, 32 * k.val, 0] := by decide +kernel
theorem off5 : ∀ k : Fin k0_t2_loop.trips, k0_off5 k = ![1, 32 * k.val, 0] := by decide +kernel
theorem off6 : ∀ k : Fin k0_t2_loop.trips, k0_off6 k = ![2, 32 * k.val, 0] := by decide +kernel
theorem off7 : ∀ k : Fin k0_t2_loop.trips, k0_off7 k = ![3, 32 * k.val, 0] := by decide +kernel
theorem off8 : ∀ k : Fin k0_t2_loop.trips, k0_off8 k = ![4, 32 * k.val, 0] := by decide +kernel
theorem off9 : ∀ k : Fin k0_t2_loop.trips, k0_off9 k = ![5, 32 * k.val, 0] := by decide +kernel
theorem off10 : ∀ k : Fin k0_t2_loop.trips, k0_off10 k = ![6, 32 * k.val, 0] := by decide +kernel
theorem off11 : ∀ k : Fin k0_t2_loop.trips, k0_off11 k = ![7, 32 * k.val, 0] := by decide +kernel
theorem off12 : ∀ k : Fin k0_t2_loop.trips, k0_off12 k = ![8, 32 * k.val, 0] := by decide +kernel
theorem off13 : ∀ k : Fin k0_t2_loop.trips, k0_off13 k = ![9, 32 * k.val, 0] := by decide +kernel
theorem off14 : ∀ k : Fin k0_t2_loop.trips, k0_off14 k = ![10, 32 * k.val, 0] := by decide +kernel
theorem off15 : ∀ k : Fin k0_t2_loop.trips, k0_off15 k = ![11, 32 * k.val, 0] := by decide +kernel
theorem off16 : ∀ k : Fin k0_t2_loop.trips, k0_off16 k = ![12, 32 * k.val, 0] := by decide +kernel
theorem off17 : ∀ k : Fin k0_t2_loop.trips, k0_off17 k = ![13, 32 * k.val, 0] := by decide +kernel
theorem off18 : ∀ k : Fin k0_t2_loop.trips, k0_off18 k = ![14, 32 * k.val, 0] := by decide +kernel
theorem off19 : ∀ k : Fin k0_t2_loop.trips, k0_off19 k = ![15, 32 * k.val, 0] := by decide +kernel
theorem off20 : ∀ k : Fin k0_t2_loop.trips, k0_off20 k = ![16, 32 * k.val, 0] := by decide +kernel
theorem off21 : ∀ k : Fin k0_t2_loop.trips, k0_off21 k = ![17, 32 * k.val, 0] := by decide +kernel
theorem off22 : ∀ k : Fin k0_t2_loop.trips, k0_off22 k = ![18, 32 * k.val, 0] := by decide +kernel
theorem off23 : ∀ k : Fin k0_t2_loop.trips, k0_off23 k = ![19, 32 * k.val, 0] := by decide +kernel
theorem off24 : ∀ k : Fin k0_t2_loop.trips, k0_off24 k = ![20, 32 * k.val, 0] := by decide +kernel
theorem off25 : ∀ k : Fin k0_t2_loop.trips, k0_off25 k = ![21, 32 * k.val, 0] := by decide +kernel
theorem off26 : ∀ k : Fin k0_t2_loop.trips, k0_off26 k = ![22, 32 * k.val, 0] := by decide +kernel
theorem off27 : ∀ k : Fin k0_t2_loop.trips, k0_off27 k = ![23, 32 * k.val, 0] := by decide +kernel
theorem off28 : ∀ k : Fin k0_t2_loop.trips, k0_off28 k = ![24, 32 * k.val, 0] := by decide +kernel
theorem off29 : ∀ k : Fin k0_t2_loop.trips, k0_off29 k = ![25, 32 * k.val, 0] := by decide +kernel
theorem off30 : ∀ k : Fin k0_t2_loop.trips, k0_off30 k = ![26, 32 * k.val, 0] := by decide +kernel

theorem g_apply (n : Fin 6912) : View.readAt (Elt Ideal) arg6.view (Rect.unit (s := S1x6912) ![0, 0] S1x6912.size inb_S1x6912_S1x6912_0_0).toLoadRect (harg6.unread x5) (ix2 0 n) = x5 (ix2 0 n) := by
  rw [View.readAt_eq_ld, harg6.read_unread]
  pointwise

include h11 in
/-- The 27 tiles one trip of the second loop reads are its rows' 6912 columns. -/
theorem cols (k : Fin k0_t2_loop.trips) (p : Fin 32) (n : Fin 6912) : k0_pay52 (F := Ideal) (trip_k0_t2.sl.v28 (F := Ideal) arg11 X11 k) (trip_k0_t2.sl.v31 (F := Ideal) arg11 X11 k) (trip_k0_t2.sl.v34 (F := Ideal) arg11 X11 k) (trip_k0_t2.sl.v37 (F := Ideal) arg11 X11 k) (trip_k0_t2.sl.v40 (F := Ideal) arg11 X11 k) (trip_k0_t2.sl.v43 (F := Ideal) arg11 X11 k) (trip_k0_t2.sl.v46 (F := Ideal) arg11 X11 k) (trip_k0_t2.sl.v49 (F := Ideal) arg11 X11 k) (trip_k0_t2.sl.v52 (F := Ideal) arg11 X11 k) (trip_k0_t2.sl.v55 (F := Ideal) arg11 X11 k) (trip_k0_t2.sl.v58 (F := Ideal) arg11 X11 k) (trip_k0_t2.sl.v61 (F := Ideal) arg11 X11 k) (trip_k0_t2.sl.v64 (F := Ideal) arg11 X11 k) (trip_k0_t2.sl.v67 (F := Ideal) arg11 X11 k) (trip_k0_t2.sl.v70 (F := Ideal) arg11 X11 k) (trip_k0_t2.sl.v73 (F := Ideal) arg11 X11 k) (trip_k0_t2.sl.v76 (F := Ideal) arg11 X11 k) (trip_k0_t2.sl.v79 (F := Ideal) arg11 X11 k) (trip_k0_t2.sl.v82 (F := Ideal) arg11 X11 k) (trip_k0_t2.sl.v85 (F := Ideal) arg11 X11 k) (trip_k0_t2.sl.v88 (F := Ideal) arg11 X11 k) (trip_k0_t2.sl.v91 (F := Ideal) arg11 X11 k) (trip_k0_t2.sl.v94 (F := Ideal) arg11 X11 k) (View.readAt (Elt Ideal) arg11.view (Rect.unit (s := S27x512x256) (k0_off27 k) S1x32x256.size (k0_off27_inb k)).toLoadRect X11) (View.readAt (Elt Ideal) arg11.view (Rect.unit (s := S27x512x256) (k0_off28 k) S1x32x256.size (k0_off28_inb k)).toLoadRect X11) (View.readAt (Elt Ideal) arg11.view (Rect.unit (s := S27x512x256) (k0_off29 k) S1x32x256.size (k0_off29_inb k)).toLoadRect X11) (View.readAt (Elt Ideal) arg11.view (Rect.unit (s := S27x512x256) (k0_off30 k) S1x32x256.size (k0_off30_inb k)).toLoadRect X11) (ix2 p n) = T (rowOf k p) n.val :=
  joined _ _ _ _ _ _ _ _ _ _ _ _ _ _ _ _ _ _ _ _ _ _ _ _ _ _ _ (fun p n => T (rowOf k p) n)
    (fun p q => tile arg11 X11 T h11 k 0 _ (off4 k) _ 0 rfl p q)
    (fun p q => tile arg11 X11 T h11 k 1 _ (off5 k) _ 256 rfl p q)
    (fun p q => tile arg11 X11 T h11 k 2 _ (off6 k) _ 512 rfl p q)
    (fun p q => tile arg11 X11 T h11 k 3 _ (off7 k) _ 768 rfl p q)
    (fun p q => tile arg11 X11 T h11 k 4 _ (off8 k) _ 1024 rfl p q)
    (fun p q => tile arg11 X11 T h11 k 5 _ (off9 k) _ 1280 rfl p q)
    (fun p q => tile arg11 X11 T h11 k 6 _ (off10 k) _ 1536 rfl p q)
    (fun p q => tile arg11 X11 T h11 k 7 _ (off11 k) _ 1792 rfl p q)
    (fun p q => tile arg11 X11 T h11 k 8 _ (off12 k) _ 2048 rfl p q)
    (fun p q => tile arg11 X11 T h11 k 9 _ (off13 k) _ 2304 rfl p q)
    (fun p q => tile arg11 X11 T h11 k 10 _ (off14 k) _ 2560 rfl p q)
    (fun p q => tile arg11 X11 T h11 k 11 _ (off15 k) _ 2816 rfl p q)
    (fun p q => tile arg11 X11 T h11 k 12 _ (off16 k) _ 3072 rfl p q)
    (fun p q => tile arg11 X11 T h11 k 13 _ (off17 k) _ 3328 rfl p q)
    (fun p q => tile arg11 X11 T h11 k 14 _ (off18 k) _ 3584 rfl p q)
    (fun p q => tile arg11 X11 T h11 k 15 _ (off19 k) _ 3840 rfl p q)
    (fun p q => tile arg11 X11 T h11 k 16 _ (off20 k) _ 4096 rfl p q)
    (fun p q => tile arg11 X11 T h11 k 17 _ (off21 k) _ 4352 rfl p q)
    (fun p q => tile arg11 X11 T h11 k 18 _ (off22 k) _ 4608 rfl p q)
    (fun p q => tile arg11 X11 T h11 k 19 _ (off23 k) _ 4864 rfl p q)
    (fun p q => tile arg11 X11 T h11 k 20 _ (off24 k) _ 5120 rfl p q)
    (fun p q => tile arg11 X11 T h11 k 21 _ (off25 k) _ 5376 rfl p q)
    (fun p q => tile arg11 X11 T h11 k 22 _ (off26 k) _ 5632 rfl p q)
    (fun p q => tile_raw arg11 X11 T h11 k 23 _ (off27 k) _ 5888 rfl 0 p q)
    (fun p q => tile_raw arg11 X11 T h11 k 24 _ (off28 k) _ 6144 rfl 0 p q)
    (fun p q => tile_raw arg11 X11 T h11 k 25 _ (off29 k) _ 6400 rfl 0 p q)
    (fun p q => tile_raw arg11 X11 T h11 k 26 _ (off30 k) _ 6656 rfl 0 p q) p n

include h11 in
theorem rstd_trip (k : Fin k0_t2_loop.trips) (p : Fin 32) (l : Fin 128) :
    k0_pay6 (trip_k0_t2.sl.r (F := Ideal) arg11 X11 k) (ix2 p l) = rstd 0x45D80000#32 (fun n : Fin 6912 => T (rowOf k p) n.val) := by
  unfold trip_k0_t2.sl.r
  exact rstd_apply _ _ _ _ _ _ _ _ _ _ _ _ _ _ _ _ _ _ _ _ _ _ _ _ _ _ _ (fun p n => T (rowOf k p) n) (fun p n => cols arg11 X11 T h11 k p n) p l

include h11 in
theorem scale_trip (k : Fin k0_t2_loop.trips) (p : Fin 32) (l : Fin 128) :
    k0_pay5 (trip_k0_t2.sl.r_1 (F := Ideal) arg6 arg11 (harg6.unread x5) X11 k) (ix2 p l) = scale (normed 0x45D80000#32 (fun n : Fin 6912 => T (rowOf k p) n.val) fun n => x5 (ix2 0 n)) := by
  unfold trip_k0_t2.sl.r_1
  refine (scale_apply _ _ _ _ _ _ _ _ _ _ _ _ _ _ _ _ _ _ _ _ _ _ _ _ _ _ _ _ (fun p n => T (rowOf k p) n) (fun p n => cols arg11 X11 T h11 k p n) p l).trans ?_
  exact congrArg (fun g : Fin 6912 → EReal => scale (normed 0x45D80000#32 (fun n : Fin 6912 => T (rowOf k p) n.val) g)) (funext fun n => g_apply arg6 harg6 x5 n)

include h11 in
theorem code_trip (k : Fin k0_t2_loop.trips) (z : Fin 1) (p : Fin 32) (n : Fin 6912) :
    k0_pay4 (trip_k0_t2.sl.r_2 (F := Ideal) arg6 arg11 (harg6.unread x5) X11 k) k0_pay57 (ix3 z p n) = code (normed 0x45D80000#32 (fun n : Fin 6912 => T (rowOf k p) n.val) fun n => x5 (ix2 0 n)) n := by
  unfold trip_k0_t2.sl.r_2
  refine (code_apply _ _ _ _ _ _ _ _ _ _ _ _ _ _ _ _ _ _ _ _ _ _ _ _ _ _ _ _ (fun p n => T (rowOf k p) n) (fun p n => cols arg11 X11 T h11 k p n) p n z).trans ?_
  exact congrArg (fun g : Fin 6912 → EReal => code (normed 0x45D80000#32 (fun n : Fin 6912 => T (rowOf k p) n.val) g) n) (funext fun n => g_apply arg6 harg6 x5 n)

theorem trip2_1 (X6 : BufTy.Contents (Elt Ideal) arg6.view.ty) (k : Fin k0_t2_loop.trips) : (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X6 X11 k).1
    = [⟨Rect.unit (s := S1x512x6912) (k0_off31 k) S1x32x6912.size (k0_off31_inb k), k0_pay4 (trip_k0_t2.sl.r_2 arg6 arg11 X6 X11 k) k0_pay57⟩] := by
  unfold tripL_k0_t2 trip_k0_t2; rfl

theorem trip2_2 (X6 : BufTy.Contents (Elt Ideal) arg6.view.ty) (k : Fin k0_t2_loop.trips) : (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X6 X11 k).2.1
    = [⟨Rect.unit (s := S512x128) (k0_off32 k) S32x128.size (k0_off32_inb k), k0_pay5 (trip_k0_t2.sl.r_1 arg6 arg11 X6 X11 k)⟩] := by
  unfold tripL_k0_t2 trip_k0_t2; rfl

theorem trip2_3 (X6 : BufTy.Contents (Elt Ideal) arg6.view.ty) (k : Fin k0_t2_loop.trips) : (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X6 X11 k).2.2
    = [⟨Rect.unit (s := S512x128) (k0_off32 k) S32x128.size (k0_off32_inb k), k0_pay6 (trip_k0_t2.sl.r arg11 X11 k)⟩] := by
  unfold tripL_k0_t2 trip_k0_t2; rfl

theorem emb8 (k : Fin k0_t2_loop.trips) (o : Fin 3 → ℕ) (ho : o = ![0, 32 * k.val, 0]) (inb) (z : Fin 1) (p : Fin 32) (n : Fin 6912) :
    (Rect.unit (s := S1x512x6912) o S1x32x6912.size inb).emb (ix3 z p n) = (ix3 z (rowOf k p) n : S1x512x6912.Idx) := by
  subst ho
  funext a
  refine Fin.ext ((Rect.idx_unit_val _ _ _ _ a).trans ?_)
  match a with
  | 0 => show 0 + z.val = z.val; omega
  | 1 => show 32 * k.val + p.val = 32 * k.val + p.val; rfl
  | 2 => show 0 + n.val = n.val; omega

theorem emb12 (k : Fin k0_t2_loop.trips) (o : Fin 2 → ℕ) (ho : o = ![32 * k.val, 0]) (inb) (p : Fin 32) (l : Fin 128) :
    (Rect.unit (s := S512x128) o S32x128.size inb).emb (ix2 p l) = (ix2 (rowOf k p) l : S512x128.Idx) := by
  subst ho
  funext a
  refine Fin.ext ((Rect.idx_unit_val _ _ _ _ a).trans ?_)
  match a with
  | 0 => show 32 * k.val + p.val = 32 * k.val + p.val; rfl
  | 1 => show 0 + l.val = l.val; omega

theorem mem8 (y : S1x512x6912.Idx) (o : Fin 3 → ℕ) (ho : o = ![0, 32 * ((y 1).val / 32), 0]) (inb) : y ∈ (Rect.unit (s := S1x512x6912) o S1x32x6912.size inb).set := by
  refine Rect.mem_set_unit.2 fun a => ?_
  subst ho
  have h0 : (y 0).val < 1 := (y 0).isLt
  have h2 : (y 2).val < 6912 := (y 2).isLt
  match a with
  | 0 => show 0 ≤ (y 0).val ∧ (y 0).val < 0 + 1; omega
  | 1 => show 32 * ((y 1).val / 32) ≤ (y 1).val ∧ (y 1).val < 32 * ((y 1).val / 32) + 32; omega
  | 2 => show 0 ≤ (y 2).val ∧ (y 2).val < 0 + 6912; omega

theorem mem12 (y : S512x128.Idx) (o : Fin 2 → ℕ) (ho : o = ![32 * ((y 0).val / 32), 0]) (inb) : y ∈ (Rect.unit (s := S512x128) o S32x128.size inb).set := by
  refine Rect.mem_set_unit.2 fun a => ?_
  subst ho
  have h1 : (y 1).val < 128 := (y 1).isLt
  match a with
  | 0 => show 32 * ((y 0).val / 32) ≤ (y 0).val ∧ (y 0).val < 32 * ((y 0).val / 32) + 32; omega
  | 1 => show 0 ≤ (y 1).val ∧ (y 1).val < 0 + 128; omega

include h11 in
/-- The codes after the second loop. -/
theorem codes (f : BufTy.Contents (Elt Ideal) arg8.view.ty) (y : S1x512x6912.Idx) :
    arg8.view.read (Elt Ideal) (arg8.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg6.unread x5) X11 k0_t2_loop.trips).1) y = G8 T x5 y :=
  pieces arg8.view f k0_t2_loop.trips (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg6.unread x5) X11 n).1) _ (congrArg (·.1) (pb_k0_t2.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 _ X11))
    (fun k => congrArg (·.1) (pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 _ X11 k)) _
    (fun k p hp x => by
      rw [trip2_1] at hp
      obtain rfl := List.mem_singleton.mp hp
      obtain ⟨z, p, n, rfl⟩ : ∃ (z : Fin 1) (p : Fin 32) (n : Fin 6912), x = ix3 z p n := ⟨x 0, x 1, x 2, by funext a; match a with | 0 => rfl | 1 => rfl | 2 => rfl⟩
      exact (code_trip arg6 harg6 arg11 x5 X11 T h11 k z p n).trans (congrArg (G8 T x5) (emb8 k _ (off31 k) (k0_off31_inb k) z p n)).symm) y
    ⟨tripOf (y 1), by rw [trip2_1]; exact ⟨_, List.mem_singleton_self _, mem8 y _ (off31 (tripOf (y 1))) (k0_off31_inb _)⟩⟩

include h11 in
/-- The scales after the second loop. -/
theorem scales (f : BufTy.Contents (Elt Ideal) arg12.view.ty) (y : S512x128.Idx) :
    arg12.view.read (Elt Ideal) (arg12.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg6.unread x5) X11 k0_t2_loop.trips).2.1) y = G12 T x5 y :=
  pieces arg12.view f k0_t2_loop.trips (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg6.unread x5) X11 n).2.1) _ (congrArg (·.2.1) (pb_k0_t2.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 _ X11))
    (fun k => congrArg (·.2.1) (pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 _ X11 k)) _
    (fun k p hp x => by
      rw [trip2_2] at hp
      obtain rfl := List.mem_singleton.mp hp
      obtain ⟨p, l, rfl⟩ : ∃ (p : Fin 32) (l : Fin 128), x = ix2 p l := ⟨x 0, x 1, by funext a; match a with | 0 => rfl | 1 => rfl⟩
      have e := congrArg (G12 T x5) (emb12 k _ (off32 k) (k0_off32_inb k) p l)
      have e' := e.trans (G12_ix T x5 (rowOf k p) l)
      have e2 := scale_trip arg6 harg6 arg11 x5 X11 T h11 k p l
      refine Eq.trans ?_ (e2.trans e'.symm)
      dsimp only) y
    ⟨tripOf (y 0), by rw [trip2_2]; exact ⟨_, List.mem_singleton_self _, mem12 y _ (off32 (tripOf (y 0))) (k0_off32_inb _)⟩⟩

include h11 in
/-- The inverse norms after the second loop. -/
theorem rstds (f : BufTy.Contents (Elt Ideal) arg13.view.ty) (X6 : BufTy.Contents (Elt Ideal) arg6.view.ty) (y : S512x128.Idx) :
    arg13.view.read (Elt Ideal) (arg13.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X6 X11 k0_t2_loop.trips).2.2) y = G13 T y :=
  pieces arg13.view f k0_t2_loop.trips (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X6 X11 n).2.2) _ (congrArg (·.2.2) (pb_k0_t2.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 _ X11))
    (fun k => congrArg (·.2.2) (pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 _ X11 k)) _
    (fun k p hp x => by
      rw [trip2_3] at hp
      obtain rfl := List.mem_singleton.mp hp
      obtain ⟨p, l, rfl⟩ : ∃ (p : Fin 32) (l : Fin 128), x = ix2 p l := ⟨x 0, x 1, by funext a; match a with | 0 => rfl | 1 => rfl⟩
      exact (rstd_trip arg11 X11 T h11 k p l).trans (congrArg (G13 T) (emb12 k _ (off32 k) (k0_off32_inb k) p l)).symm) y
    ⟨tripOf (y 0), by rw [trip2_3]; exact ⟨_, List.mem_singleton_self _, mem12 y _ (off32 (tripOf (y 0))) (k0_off32_inb _)⟩⟩

end Second

end Loops

/-! ## The three outputs of one run -/

section Run

variable (c : Dev nD) (i : grid0.Coords) (arg1 : Memref sig .tc .smem S2 .f32) (harg1 : arg1.IsWhole) (arg2 : Memref sig .tc .vmem S1x512x2560 .i8) (harg2 : arg2.IsWhole) (arg3 : Memref sig .tc .vmem S3x512 .f32) (harg3 : arg3.IsWhole) (arg4 : Memref sig .tc .vmem S1728x2560 .i8) (harg4 : arg4.IsWhole) (arg5 : Memref sig .tc .vmem S1728x2560 .i8) (harg5 : arg5.IsWhole) (arg6 : Memref sig .tc .vmem S1x6912 .f32) (harg6 : arg6.IsWhole) (arg7 : Memref sig .tc .vmem S3x512 .f32) (harg7 : arg7.IsWhole) (arg8 : Memref sig .tc .vmem S1x512x6912 .i8) (harg8 : arg8.IsWhole) (arg9 : Memref sig .tc .vmem S3x512 .f32) (harg9 : arg9.IsWhole) (arg10 : Memref sig .tc .vmem S512x2560 .bf16) (harg10 : arg10.IsWhole) (arg11 : Memref sig .tc .vmem S27x512x256 .f32) (harg11 : arg11.IsWhole) (arg12 : Memref sig .tc .vmem S512x128 .f32) (harg12 : arg12.IsWhole) (arg13 : Memref sig .tc .vmem S512x128 .f32) (harg13 : arg13.IsWhole)
  (x0 : Vec Ideal S2 .f32) (x1 : Vec Ideal S1x512x2560 .i8) (x2 : Vec Ideal S3x512 .f32) (x3 : Vec Ideal S1728x2560 .i8) (x4 : Vec Ideal S1728x2560 .i8) (x5 : Vec Ideal S1x6912 .f32)
  (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

/-- The rows of `relu(gate)^2 * up` at grid point `i`. -/
def T (i : grid0.Coords) (x0 : Vec Ideal S2 .f32) (x1 : Vec Ideal S1x512x2560 .i8) (x2 : Vec Ideal S3x512 .f32) (x3 x4 : Vec Ideal S1728x2560 .i8) : Fin 512 → ℕ → EReal :=
  M x0 x1 (fun r => x2 (ix2 (i 0) r)) x3 x4

theorem a_apply (r : Fin 512) : View.readAt (Elt Ideal) arg3.view (Rect.unit (s := S3x512) (k0_off1 i) S1x512.size (k0_off1_inb i)).toLoadRect (harg3.unread x2) (ix2 0 r) = x2 (ix2 (i 0) r) := by
  rw [View.readAt_eq_ld, harg3.read_unread]
  refine View.ld_unit_apply_of (S := S3x512) (Val := Elt Ideal) _ (k0_off1 i) S1x512.size (k0_off1_inb i) (ix2 0 r) (ix2 (i 0) r : S3x512.Idx) fun a => ?_
  refine Eq.trans ?_ (congrArg (fun o : Fin 2 → ℕ => o a + (ix2 (0 : Fin 1) r a).val) (off1 i)).symm
  match a with
  | 0 => show (i 0).val = (i 0).val + 0; omega
  | 1 => show r.val = 0 + r.val; omega

theorem codes_in (r : Fin 512) (l : Fin 2560) :
    trip_k0_t1.sl.r (F := Ideal) arg10 (arg10.view.writes (Elt Ideal) arg10.view.junk (GateUpRun.run.sl.H10_1 (F := Ideal) c arg2 harg2 x1)) (ix2 r l) = (((x1 (ix3 0 r l) : BitVec 8).toInt : ℝ) : EReal) := by
  unfold trip_k0_t1.sl.r GateUpRun.run.sl.H10_1
  rw [View.readAt_writes_full]
  unfold k0_pay1
  rw [View.readAt_eq_ld, harg2.read_unread]
  pointwise
  rfl

theorem scratch_run (y : S27x512x256.Idx) :
    arg11.view.read (Elt Ideal) (arg11.view.writes (Elt Ideal) f11 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg3.view (Rect.unit (s := S3x512) (k0_off1 i) S1x512.size (k0_off1_inb i)).toLoadRect (harg3.unread x2)) (harg1.unread x0) (harg4.unread x3) (harg5.unread x4) (arg10.view.writes (Elt Ideal) arg10.view.junk (GateUpRun.run.sl.H10_1 (F := Ideal) c arg2 harg2 x1)) k0_t1_loop.trips)) y
      = T i x0 x1 x2 x3 x4 (y 1) (256 * (y 0).val + (y 2).val) := by
  rw [scratch Variants.none c none i arg1 harg1 arg2 harg2 arg3 harg3 arg4 harg4 arg5 harg5 arg6 harg6 arg7 harg7 arg8 harg8 arg9 harg9 arg10 harg10 arg11 harg11 arg12 harg12 arg13 harg13 _ x0 x1 x3 x4 _ (codes_in c arg2 harg2 arg10 x1) f11 y]
  unfold G11 T
  rw [funext (a_apply i arg3 harg3 x2)]

theorem row_of_col0 (v : Vec Ideal S512x128 .f32) (z : Fin 1) (q : Fin 512) : k0_pay7 (F := Ideal) v (ix2 z q) = v (ix2 q 0) := by
  unfold k0_pay7
  pointwise

theorem row_of_col0' (v : Vec Ideal S512x128 .f32) (z : Fin 1) (q : Fin 512) : k0_pay8 (F := Ideal) v (ix2 z q) = v (ix2 q 0) := row_of_col0 v z q

/-- One row of a 3-row buffer stored: that row reads the stored row, the others what was there. -/
theorem row_store (m : Memref sig .tc .vmem S3x512 .f32) (f : BufTy.Contents (Elt Ideal) m.view.ty) (w : S1x512.Idx → EReal) (y : S3x512.Idx) :
    m.view.read (Elt Ideal) (m.view.writes (Elt Ideal) f [⟨Rect.unit (s := S3x512) (k0_off1 i) S1x512.size (k0_off1_inb i), w⟩]) y
      = if (y 0).val = (i 0).val then w (ix2 0 (y 1)) else m.view.read (Elt Ideal) f y := by
  split_ifs with h
  · refine View.read_writes_cons_unit_of_mem m.view f _ w [] y (ix2 0 (y 1)) (off1 i) fun a => ?_
    match a with
    | 0 => show (y 0).val = (i 0).val + 0; omega
    | 1 => show (y 1).val = 0 + (y 1).val; omega
  · refine (View.read_writes_cons_unit_of_not_mem m.view f _ w [] y (off1 i) 0 ?_).trans rfl
    show (y 0).val < (i 0).val ∨ (i 0).val + 1 ≤ (y 0).val
    omega

/-- The inverse norms: row `i` of the first output. -/
theorem point7 (y : S3x512.Idx) : arg7.view.read (Elt Ideal) (GateUpRun.run (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f7 f8 f9 f10 f11 f12 f13).1 y
    = if (y 0).val = (i 0).val then rstd 0x45D80000#32 (fun n : Fin 6912 => T i x0 x1 x2 x3 x4 (y 1) n.val) else arg7.view.read (Elt Ideal) f7 y := by
  unfold GateUpRun.run
  refine (row_store i arg7 f7 _ y).trans ?_
  refine if_congr Iff.rfl ?_ rfl
  refine (row_of_col0' _ 0 (y 1)).trans ?_
  unfold GateUpRun.run.sl.v19
  rw [View.readAt_full]
  exact rstds Variants.none c none i arg1 harg1 arg2 harg2 arg3 harg3 arg4 harg4 arg5 harg5 arg6 harg6 arg7 harg7 arg8 harg8 arg9 harg9 arg10 harg10 arg11 harg11 arg12 harg12 arg13 harg13 _ (T i x0 x1 x2 x3 x4) (scratch_run c i arg1 harg1 arg2 harg2 arg3 harg3 arg4 harg4 arg5 harg5 arg6 harg6 arg7 harg7 arg8 harg8 arg9 harg9 arg10 harg10 arg11 harg11 arg12 harg12 arg13 harg13 x0 x1 x2 x3 x4 f11) f13 _ (ix2 (y 1) 0)

/-- The scales: row `i` of the third output. -/
theorem point9 (y : S3x512.Idx) : arg9.view.read (Elt Ideal) (GateUpRun.run (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f7 f8 f9 f10 f11 f12 f13).2.2.1 y
    = if (y 0).val = (i 0).val then scale (normed 0x45D80000#32 (fun n : Fin 6912 => T i x0 x1 x2 x3 x4 (y 1) n.val) fun n => x5 (ix2 0 n)) else arg9.view.read (Elt Ideal) f9 y := by
  unfold GateUpRun.run
  refine (row_store i arg9 f9 _ y).trans ?_
  refine if_congr Iff.rfl ?_ rfl
  refine (row_of_col0 _ 0 (y 1)).trans ?_
  unfold GateUpRun.run.sl.v14
  rw [View.readAt_full]
  exact (scales Variants.none c none i arg1 harg1 arg2 harg2 arg3 harg3 arg4 harg4 arg5 harg5 arg6 harg6 arg7 harg7 arg8 harg8 arg9 harg9 arg10 harg10 arg11 harg11 arg12 harg12 arg13 harg13 x5 _ (T i x0 x1 x2 x3 x4) (scratch_run c i arg1 harg1 arg2 harg2 arg3 harg3 arg4 harg4 arg5 harg5 arg6 harg6 arg7 harg7 arg8 harg8 arg9 harg9 arg10 harg10 arg11 harg11 arg12 harg12 arg13 harg13 x0 x1 x2 x3 x4 f11) f12 (ix2 (y 1) 0)).trans (G12_ix _ x5 (y 1) 0)

/-- The codes: the whole block of the second output. -/
theorem point8 (y : S1x512x6912.Idx) : arg8.view.read (Elt Ideal) (GateUpRun.run (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f7 f8 f9 f10 f11 f12 f13).2.1 y = G8 (T i x0 x1 x2 x3 x4) x5 y := by
  unfold GateUpRun.run
  exact codes Variants.none c none i arg1 harg1 arg2 harg2 arg3 harg3 arg4 harg4 arg5 harg5 arg6 harg6 arg7 harg7 arg8 harg8 arg9 harg9 arg10 harg10 arg11 harg11 arg12 harg12 arg13 harg13 x5 _ (T i x0 x1 x2 x3 x4) (scratch_run c i arg1 harg1 arg2 harg2 arg3 harg3 arg4 harg4 arg5 harg5 arg6 harg6 arg7 harg7 arg8 harg8 arg9 harg9 arg10 harg10 arg11 harg11 arg12 harg12 arg13 harg13 x0 x1 x2 x3 x4 f11) f8 y

end Run

end Cert.Proof.GateUpPoint

end
-- ==== Proof.GateUpFrame.lean ====
/- The launch of the call `gateup` over the ideal reals: what its run leaves in the three result arrays, point by point.  The
   two results of 3 rows stay in their buffers from point to point, each point adding its row; the codes leave block by
   block.  The frame comes with it. -/
module

public import proofs.«01_k».proof.Proof.Gen.GateUpIdeal.Frame
public import proofs.«01_k».proof.Proof.Gen.GateUpIdeal.Launch
public import proofs.«01_k».proof.Proof.Gen.GateUpIdeal.Skeleton
public import proofs.«01_k».proof.Proof.Gen.GateUpIdeal.Loops
public import proofs.«01_k».proof.Proof.Gen.GateUpIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.DatRel
public import proofs.«01_k».proof.Proof.GateUpPoint

@[expose] public section

set_option maxRecDepth 16384

noncomputable section

namespace Cert.Proof.GateUpFrame

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.Proof.RowQuant Cert.Proof.GateUpPoint

local notation "𝕄" => MT nD τ sig Unit (Elt Ideal) ℕ (UR sig nD τ) ℕ

variable (m : (ℓ : Loc nD τ sig) → Buf (Elt Ideal) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_GateUpIdeal`, Defs.lean). -/
theorem frame_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1728x2560 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1728x2560 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6912 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x6912 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x2560 .bf16 := Memref.whole cc0_scratch0
abbrev scM0_1 : Memref sig .tc .vmem S27x512x256 .f32 := Memref.whole cc0_scratch1
abbrev scM0_2 : Memref sig .tc .vmem S512x128 .f32 := Memref.whole cc0_scratch2
abbrev scM0_3 : Memref sig .tc .vmem S512x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 1000000 in
/-- The body's triple: the inputs at their contents, the first and third outputs at `Y6` and `Y8`; both end with row `i`
    replaced, the second output with its codes. -/
theorem kernelRun0_A (c : Dev nD) (i : grid0.Coords) (arg1 : Memref sig .tc .smem S2 .f32) (harg1 : arg1.IsWhole) (arg2 : Memref sig .tc .vmem S1x512x2560 .i8) (harg2 : arg2.IsWhole) (arg3 : Memref sig .tc .vmem S3x512 .f32) (harg3 : arg3.IsWhole) (arg4 : Memref sig .tc .vmem S1728x2560 .i8) (harg4 : arg4.IsWhole) (arg5 : Memref sig .tc .vmem S1728x2560 .i8) (harg5 : arg5.IsWhole) (arg6 : Memref sig .tc .vmem S1x6912 .f32) (harg6 : arg6.IsWhole) (arg7 : Memref sig .tc .vmem S3x512 .f32) (harg7 : arg7.IsWhole) (arg8 : Memref sig .tc .vmem S1x512x6912 .i8) (harg8 : arg8.IsWhole) (arg9 : Memref sig .tc .vmem S3x512 .f32) (harg9 : arg9.IsWhole) (arg10 : Memref sig .tc .vmem S512x2560 .bf16) (harg10 : arg10.IsWhole) (arg11 : Memref sig .tc .vmem S27x512x256 .f32) (harg11 : arg11.IsWhole) (arg12 : Memref sig .tc .vmem S512x128 .f32) (harg12 : arg12.IsWhole) (arg13 : Memref sig .tc .vmem S512x128 .f32) (harg13 : arg13.IsWhole)
    (x0 : Vec Ideal S2 .f32) (x1 : Vec Ideal S1x512x2560 .i8) (x2 : Vec Ideal S3x512 .f32) (x3 : Vec Ideal S1728x2560 .i8) (x4 : Vec Ideal S1728x2560 .i8) (x5 : Vec Ideal S1x6912 .f32) (Y6 Y8 : Vec Ideal S3x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare Y6 ∗ (∃ d, owns (c : Thread nD τ) arg8 fullShare d) ∗ owns (c : Thread nD τ) arg9 fullShare Y8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ X : S3x512.Idx → EReal, ⌜∀ y, X y = if (y 0).val = (i 0).val then rstd 0x45D80000#32 (fun n : Fin 6912 => T i x0 x1 x2 x3 x4 (y 1) n.val) else Y6 y⌝ ∗ owns (c : Thread nD τ) arg7 fullShare X) ∗ (∃ X : S1x512x6912.Idx → BitVec 8, ⌜∀ y, X y = G8 (T i x0 x1 x2 x3 x4) x5 y⌝ ∗ owns (c : Thread nD τ) arg8 fullShare X) ∗ (∃ X : S3x512.Idx → EReal, ⌜∀ y, X y = if (y 0).val = (i 0).val then scale (normed 0x45D80000#32 (fun n : Fin 6912 => T i x0 x1 x2 x3 x4 (y 1) n.val) fun n => x5 (ix2 0 n)) else Y8 y⌝ ∗ owns (c : Thread nD τ) arg9 fullShare X) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := Ideal)) Variants.none c none) E (cc0_gateup i arg1 harg1 arg2 harg2 arg3 harg3 arg4 harg4 arg5 harg5 arg6 harg6 arg7 harg7 arg8 harg8 arg9 harg9 arg10 harg10 arg11 harg11 arg12 harg12 arg13 harg13) K := by
    intro E K
    unfold owns
    iintro ⟨H0, H1, H2, H3, H4, H5, ⟨%f6, %hf6, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    iapply ((GateUpRun.run (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f6 f7 f8 fs0 fs1 fs2 fs3).2.2.2 E K)
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, ⟨%e0, HS0⟩, ⟨%e1, HS1⟩, ⟨%e2, HS2⟩, ⟨%e3, HS3⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap
      · iexists _; isplitr; swap; · iexact H6
        ipureintro; rfl
      ipureintro; intro y; rw [← hf6]; exact point7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f6 f7 f8 fs0 fs1 fs2 fs3 y
    isplitl [H7]
    · iexists _; isplitr; swap
      · iexists _; isplitr; swap; · iexact H7
        ipureintro; rfl
      ipureintro; intro y; exact point8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f6 f7 f8 fs0 fs1 fs2 fs3 y
    isplitl [H8]
    · iexists _; isplitr; swap
      · iexists _; isplitr; swap; · iexact H8
        ipureintro; rfl
      ipureintro; intro y; rw [← hf8]; exact point9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 f6 f7 f8 fs0 fs1 fs2 fs3 y
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The output windows (6, 7, 8), whose contents the proof data leave open: the relation `Rl` below says what is known of
    them (Lib/Pipeline/DatRel.lean `Dat.toRRel`). -/
def forgets0 : Fin 9 → Bool := fun w => w.val == 6 || w.val == 7 || w.val == 8

/-- The proof data of the one pipeline on core `c`: the arrays as the region finds them (`V`); after the body at
    point `t` each input's buffer at its block and the outputs, left open, at `Dat.unnamed`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The rows of `relu(gate)^2 * up` at point `t`. -/
def TT (c : Dev nD) (t : Fin cfg0.N) : Fin 512 → ℕ → EReal :=
  T (grid0.coords t) (iblk m c 0 t) (iblk m c 1 t) (iblk m c 2 t) (iblk m c 3 t) (iblk m c 4 t)

/-- The point that does block `b`. -/
def pt (b : Fin 3) : Fin cfg0.N := ⟨b.val, Nat.lt_of_lt_of_le b.isLt (by decide)⟩

/-- The reciprocal root of row `q` of slab `b`, from the blocks at `b`'s point. -/
def W6 (c : Dev nD) (b : Fin 3) (q : Fin 512) : EReal := rstd 0x45D80000#32 (fun n : Fin 6912 => TT m c (pt b) q n.val)
/-- The scale of row `q` of slab `b`, from the blocks at `b`'s point. -/
def W8 (c : Dev nD) (b : Fin 3) (q : Fin 512) : EReal :=
  scale (normed 0x45D80000#32 (fun n : Fin 6912 => TT m c (pt b) q n.val) fun n => (iblk m c 5 (pt b) : Vec Ideal S1x6912 .f32) (ix2 0 n))

/-- What is known of the outputs' buffers after the body at point `t`: rows `0 … t` of the two row results, and the codes. -/
def Rl (c : Dev nD) (w : Fin cfg0.W) (t : Fin cfg0.N) (X : (cfg0.win w).block.Idx → Elt Ideal (cfg0.win w).elt) : Prop :=
  match w, X with
  | ⟨6, _⟩, X => ∀ (b : Fin 3) (q : Fin 512), b.val ≤ t.val → (X : S3x512.Idx → EReal) (ix2 b q) = W6 m c b q
  | ⟨7, _⟩, X => ∀ y : S1x512x6912.Idx, (X : S1x512x6912.Idx → BitVec 8) y = G8 (TT m c t) (iblk m c 5 t) y
  | ⟨8, _⟩, X => ∀ (b : Fin 3) (q : Fin 512), b.val ≤ t.val → (X : S3x512.Idx → EReal) (ix2 b q) = W8 m c b q
  | _, _ => True

abbrev rdat (c : Dev nD) : Pipeline.RDat τ (Elt Ideal) Unit ℕ (UR sig nD τ) ℕ (cfgs 0) c := (dats m 0 c).toRRel forgets0 (Rl m c)

theorem coords_val : ∀ t : Fin cfg0.N, (grid0.coords t 0).val = t.val := (by decide +kernel : ∀ t : Fin grid0.N, _)
theorem keep6 : ∀ t : Fin cfg0.N, (cfg0.win 6).fetch t = false ∧ (t.val ≠ 0 → (cfg0.win 6).flush ⟨t.val - 1, Nat.lt_of_le_of_lt (Nat.sub_le _ _) t.isLt⟩ = false) :=
  (by decide +kernel : ∀ t : Fin grid0.N, _)
theorem keep8 : ∀ t : Fin cfg0.N, (cfg0.win 8).fetch t = false ∧ (t.val ≠ 0 → (cfg0.win 8).flush ⟨t.val - 1, Nat.lt_of_le_of_lt (Nat.sub_le _ _) t.isLt⟩ = false) :=
  (by decide +kernel : ∀ t : Fin grid0.N, _)

theorem pt_eq (t : Fin cfg0.N) (b : Fin 3) (h : b.val = (grid0.coords t 0).val) : pt b = t := Fin.ext (h.trans (coords_val t))

/-- The rows found at point `t` in window 6: those of the points before it. -/
theorem found6 (c : Dev nD) (t : Fin cfg0.N) (Y) (hY : (rdat m c).Finds 6 t Y) (b : Fin 3) (q : Fin 512) (h : b.val < t.val) : (Y : S3x512.Idx → EReal) (ix2 b q) = W6 m c b q := by
  have ht : t.val ≠ 0 := by omega
  rcases ((rdat m c).finds_of_pos (keep6 t).1 ht Y).mp hY with hf | hL
  · rw [(keep6 t).2 ht] at hf; exact absurd hf Bool.false_ne_true
  · exact (Dat.toRRel_leaves _ (by rfl) hL : Rl m c 6 _ Y) b q (by show b.val ≤ t.val - 1; omega)

/-- The rows found at point `t` in window 8: those of the points before it. -/
theorem found8 (c : Dev nD) (t : Fin cfg0.N) (Y) (hY : (rdat m c).Finds 8 t Y) (b : Fin 3) (q : Fin 512) (h : b.val < t.val) : (Y : S3x512.Idx → EReal) (ix2 b q) = W8 m c b q := by
  have ht : t.val ≠ 0 := by omega
  rcases ((rdat m c).finds_of_pos (keep8 t).1 ht Y).mp hY with hf | hL
  · rw [(keep8 t).2 ht] at hf; exact absurd hf Bool.false_ne_true
  · exact (Dat.toRRel_leaves _ (by rfl) hL : Rl m c 8 _ Y) b q (by show b.val ≤ t.val - 1; omega)

/-- A point that replaces its own row of window 6 leaves the rows up to its own. -/
theorem step6 (c : Dev nD) (t : Fin cfg0.N) (Y : S3x512.Idx → EReal) (hY : (rdat m c).Finds 6 t Y) (X : S3x512.Idx → EReal)
    (hX : ∀ y, X y = if (y 0).val = (grid0.coords t 0).val then rstd 0x45D80000#32 (fun n : Fin 6912 => TT m c t (y 1) n.val) else Y y) : Rl m c 6 t X := by
  show ∀ (b : Fin 3) (q : Fin 512), b.val ≤ t.val → X (ix2 b q) = W6 m c b q
  intro b q hb
  refine (hX (ix2 b q)).trans ?_
  by_cases h : b.val = (grid0.coords t 0).val
  · refine (if_pos h).trans ?_
    unfold W6
    rw [pt_eq t b h]
    rfl
  · refine (if_neg h).trans (found6 m c t Y hY b q ?_)
    rw [coords_val] at h
    omega

/-- The same of window 8. -/
theorem step8 (c : Dev nD) (t : Fin cfg0.N) (Y : S3x512.Idx → EReal) (hY : (rdat m c).Finds 8 t Y) (X : S3x512.Idx → EReal)
    (hX : ∀ y, X y = if (y 0).val = (grid0.coords t 0).val then scale (normed 0x45D80000#32 (fun n : Fin 6912 => TT m c t (y 1) n.val) fun n => (iblk m c 5 t : Vec Ideal S1x6912 .f32) (ix2 0 n)) else Y y) : Rl m c 8 t X := by
  show ∀ (b : Fin 3) (q : Fin 512), b.val ≤ t.val → X (ix2 b q) = W8 m c b q
  intro b q hb
  refine (hX (ix2 b q)).trans ?_
  by_cases h : b.val = (grid0.coords t 0).val
  · refine (if_pos h).trans ?_
    unfold W8
    rw [pt_eq t b h]
    rfl
  · refine (if_neg h).trans (found8 m c t Y hY b q ?_)
    rw [coords_val] at h
    omega

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%Y6, %hY6, H6⟩, ⟨%Y7, -, H7⟩, ⟨%Y8, %hY8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) Y6 Y8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, ⟨%X6, %hX6, H6⟩, ⟨%X7, %hX7, H7⟩, ⟨%X8, %hX8, H8⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists X6; isplitr
    · ipureintro; exact step6 m c t Y6 hY6 X6 hX6
    iexact H6
  isplitl [H7]
  · iexists X7; isplitr
    · ipureintro; exact hX7
    iexact H7
  iexists X8; isplitr
  · ipureintro; exact step8 m c t Y8 hY8 X8 hX8
  iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-! ## The run and the frame -/

-- `RDat.θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, every OUTPUT array
    (windows 6, 7, 8) one that blocks satisfying `Rl` make, and every other unscoped buffer at its region-entry contents. -/
theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (rdat m) (A_eq m) (run_main m ρ)

/-- THE FRAME: every argument array ends as it began, and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.GateUpFrame

end
-- ==== Proof.GateUpRef.lean ====
/- The call `gateup`: its three results as functions of the arguments, and the reference's values. Every row of 6912
   numbers `relu(gate)^2 * up` is normalised by its root mean square and its gains, and quantised. -/
module

public import proofs.«01_k».proof.Proof.Ternary
public import proofs.«01_k».proof.Proof.RowQuant
public import proofs.«01_k».proof.Proof.Gen.GateUpReferenceIdeal.Read
public import Idealize.ShloMosaic.Lib.Pipeline.ValueKit
public import Idealize.ShloMosaic.Lib.Pointwise
public import Idealize.ShloMosaic.Lib.Pointwise.IndexBridge

@[expose] public section

set_option maxRecDepth 16384

noncomputable section

namespace Cert.Proof.GateUpRef

open Idealize.ShloMosaic Idealize.ShloMosaic.Pipeline Idealize.ShloMosaic.TcCoe Idealize.SL.Sem
open Cert.GateUpReferenceIdeal Cert.GateUpReferenceIdeal.Gen Cert.GateUpReferenceIdeal.Read
open Cert.Proof.Ternary Cert.Proof.RowQuant

/-- Entry `n` of one of the two products, on row `r` of slab `b`: codes times weights, by the row's scale and the matrix's
    scale. Column `n` of the weights is field `n / 1728` of the packed column `n % 1728`. -/
def lin (c3 : Vec Ideal S3x512x2560 .i8) (a3 : Vec Ideal S3x512 .f32) (w : Vec Ideal S2560x1728 .i8) (s : Vec Ideal S_ .f32)
    (b : Fin 3) (r : Fin 512) (n : ℕ) : EReal :=
  dot (n / 1728) (fun k => c3 (ix3 b r k)) (fun k => w (ix2 k ⟨n % 1728, Nat.mod_lt _ (by decide)⟩)) * a3 (ix2 b r) * s ix0

section Results

variable (sg su : Vec Ideal S_ .f32) (c3 : Vec Ideal S3x512x2560 .i8) (a3 : Vec Ideal S3x512 .f32)
  (wg wu : Vec Ideal S2560x1728 .i8) (g : Vec Ideal S6912 .f32)

/-- Row `r` of slab `b` of `relu(gate)^2 * up`. -/
def row (b : Fin 3) (r : Fin 512) (n : Fin 6912) : EReal :=
  max (lin c3 a3 wg sg b r n.val) 0 * max (lin c3 a3 wg sg b r n.val) 0 * lin c3 a3 wu su b r n.val

/-- The reciprocal root of the mean square of every row. -/
def rstds : Vec Ideal S3x512 .f32 := fun j => rstd 0x45D80000#32 (row sg su c3 a3 wg wu (j 0) (j 1))

/-- The rows normalised. -/
def rows (b : Fin 3) (r : Fin 512) : Fin 6912 → EReal :=
  normed 0x45D80000#32 (row sg su c3 a3 wg wu b r) fun n => g (ix1 n)

/-- The scale of every normalised row. -/
def scales : Vec Ideal S3x512 .f32 := fun j => scale (rows sg su c3 a3 wg wu g (j 0) (j 1))

/-- The codes of every normalised row. -/
def codes : Vec Ideal S3x512x6912 .i8 := fun j => code (rows sg su c3 a3 wg wu g (j 0) (j 1)) (j 2)

end Results

/-- One field's product: codes and decoded weights contracted. -/
theorem dot_field (f : Fin 4) (c3 : Vec Ideal S3x512x2560 .i8) (w : Vec Ideal S2560x1728 .i8)
    (cb : Vec Ideal S3x512x2560 .bf16) (wb : Vec Ideal S2560x1728 .bf16)
    (hc : ∀ j, cb j = ((((c3 j).signExtend 32).toInt : ℝ) : EReal))
    (hw : ∀ j, wb j = ((((IntOp.subi (IntOp.andi (IntOp.shrsi .host ((w j).setWidth 32) (BitVec.ofNat 32 (2 * f.val))) 3#32) 1#32).toInt : ℝ)) : EReal))
    (b : Fin 3) (r : Fin 512) (l : Fin 1728) :
    (∑ k : Fin 2560, cb (lidx_main_v10 (ix3 b r l) k) * wb (ridx_main_v10 (ix3 b r l) k) : EReal)
      = dot f.val (fun k => c3 (ix3 b r k)) (fun k => w (ix2 k l)) := by
  refine Finset.sum_congr rfl fun k _ => ?_
  have el : lidx_main_v10 (ix3 b r l) k = ix3 b r k := by
    funext a
    match a with
    | ⟨0, _⟩ => rfl
    | ⟨1, _⟩ => rfl
    | ⟨2, _⟩ => rfl
  have er : ridx_main_v10 (ix3 b r l) k = ix2 k l := by
    funext a
    match a with
    | ⟨0, _⟩ => rfl
    | ⟨1, _⟩ => rfl
  rw [el, er, hc, hw, trit_reference, toInt_code]

/-- Four arrays joined along the last axis, read at an index: the part the index lies in. -/
theorem concat_apply (y0 y1 y2 y3 : FVec Ideal S3x512x1728 .f32) (h) (b : Fin 3) (r : Fin 512) (n : Fin 6912)
    (D : ℕ → Fin 1728 → EReal) (h0 : ∀ l, y0 (ix3 b r l) = D 0 l) (h1 : ∀ l, y1 (ix3 b r l) = D 1 l)
    (h2 : ∀ l, y2 (ix3 b r l) = D 2 l) (h3 : ∀ l, y3 (ix3 b r l) = D 3 l) :
    concatenate S3x512x6912 2 [⟨S3x512x1728, y0⟩, ⟨S3x512x1728, y1⟩, ⟨S3x512x1728, y2⟩, ⟨S3x512x1728, y3⟩] h (ix3 b r n)
      = D (n.val / 1728) ⟨n.val % 1728, Nat.mod_lt _ (by omega)⟩ := by
  have e : ∀ (f g : ℕ) (l l' : Fin 1728), f = g → l.val = l'.val → D f l = D g l' := fun f g l l' hf hl => congrArg₂ D hf (Fin.ext hl)
  pointwise
  simp only [h0, h1, h2, h3]
  split_ifs <;> (refine e _ _ _ _ ?_ ?_ <;> (try simp only []) <;> omega)

section Products

variable (s : Vec Ideal S_ .f32) (c3 : Vec Ideal S3x512x2560 .i8) (a3 : Vec Ideal S3x512 .f32) (w : Vec Ideal S2560x1728 .i8)
  (b : Fin 3) (r : Fin 512) (n : Fin 6912)

/-- Field `0` of the gate's product. -/
theorem gate_field0 (l : Fin 1728) : val_main_v10 (F := Ideal) c3 w (ix3 b r l) = dot 0 (fun k => c3 (ix3 b r k)) (fun k => w (ix2 k l)) := by
  rw [val_main_v10_apply]
  refine dot_field 0 c3 w _ _ (fun j => ?_) (fun j => ?_) b r l
  · rw [val_main_v1_apply, val_main_v0_apply]
    rfl
  · simp only [val_main_v9_apply, val_main_v8_apply, val_main_v7_apply, val_main_v6_apply, val_main_v5_apply, val_main_v4_apply, val_main_v3_apply, val_main_v2_apply, val_main_c_apply, val_main_c_0_apply, val_main_c_1_apply]
    rfl

/-- Field `1` of the gate's product. -/
theorem gate_field1 (l : Fin 1728) : val_main_v19 (F := Ideal) c3 w (ix3 b r l) = dot 1 (fun k => c3 (ix3 b r k)) (fun k => w (ix2 k l)) := by
  rw [val_main_v19_apply]
  refine dot_field 1 c3 w _ _ (fun j => ?_) (fun j => ?_) b r l
  · rw [val_main_v1_apply, val_main_v0_apply]
    rfl
  · simp only [val_main_v18_apply, val_main_v17_apply, val_main_v16_apply, val_main_v15_apply, val_main_v14_apply, val_main_v13_apply, val_main_v12_apply, val_main_v11_apply, val_main_c_2_apply, val_main_c_3_apply, val_main_c_4_apply]
    rfl

/-- Field `2` of the gate's product. -/
theorem gate_field2 (l : Fin 1728) : val_main_v28 (F := Ideal) c3 w (ix3 b r l) = dot 2 (fun k => c3 (ix3 b r k)) (fun k => w (ix2 k l)) := by
  rw [val_main_v28_apply]
  refine dot_field 2 c3 w _ _ (fun j => ?_) (fun j => ?_) b r l
  · rw [val_main_v1_apply, val_main_v0_apply]
    rfl
  · simp only [val_main_v27_apply, val_main_v26_apply, val_main_v25_apply, val_main_v24_apply, val_main_v23_apply, val_main_v22_apply, val_main_v21_apply, val_main_v20_apply, val_main_c_5_apply, val_main_c_6_apply, val_main_c_7_apply]
    rfl

/-- Field `3` of the gate's product. -/
theorem gate_field3 (l : Fin 1728) : val_main_v37 (F := Ideal) c3 w (ix3 b r l) = dot 3 (fun k => c3 (ix3 b r k)) (fun k => w (ix2 k l)) := by
  rw [val_main_v37_apply]
  refine dot_field 3 c3 w _ _ (fun j => ?_) (fun j => ?_) b r l
  · rw [val_main_v1_apply, val_main_v0_apply]
    rfl
  · simp only [val_main_v36_apply, val_main_v35_apply, val_main_v34_apply, val_main_v33_apply, val_main_v32_apply, val_main_v31_apply, val_main_v30_apply, val_main_v29_apply, val_main_c_8_apply, val_main_c_9_apply, val_main_c_10_apply]
    rfl

/-- The gate: the product scaled. -/
theorem gate_eq : val_main_v43 (F := Ideal) s c3 a3 w (ix3 b r n) = lin c3 a3 w s b r n.val := by
  rw [val_main_v43_apply, val_main_v42_apply, val_main_v41_apply, val_main_v40_apply, val_main_v39_apply]
  unfold val_main_v38 lin
  have hc := concat_apply (val_main_v10 c3 w) (val_main_v19 c3 w) (val_main_v28 c3 w) (val_main_v37 c3 w)
    concatenates_S3x512x1728_S3x512x1728_S3x512x1728_S3x512x1728_S3x512x6912_d2 b r n
    (fun f l => dot f (fun k => c3 (ix3 b r k)) (fun k => w (ix2 k l))) (gate_field0 c3 w b r) (gate_field1 c3 w b r) (gate_field2 c3 w b r) (gate_field3 c3 w b r)
  have ea : idx_main_v39 (idx_main_v40 (ix3 b r n)) = ix2 b r := by
    funext a
    match a with
    | ⟨0, _⟩ => rfl
    | ⟨1, _⟩ => rfl
  have es : idx_main_v42 (ix3 b r n) = ix0 := funext fun a => a.elim0
  rw [ea, es]
  exact congrArg (fun d : EReal => d * a3 (ix2 b r) * s ix0) hc

/-- Field `0` of the up's product. -/
theorem up_field0 (l : Fin 1728) : val_main_v54 (F := Ideal) c3 w (ix3 b r l) = dot 0 (fun k => c3 (ix3 b r k)) (fun k => w (ix2 k l)) := by
  rw [val_main_v54_apply]
  refine dot_field 0 c3 w _ _ (fun j => ?_) (fun j => ?_) b r l
  · rw [val_main_v45_apply, val_main_v44_apply]
    rfl
  · simp only [val_main_v53_apply, val_main_v52_apply, val_main_v51_apply, val_main_v50_apply, val_main_v49_apply, val_main_v48_apply, val_main_v47_apply, val_main_v46_apply, val_main_c_11_apply, val_main_c_12_apply, val_main_c_13_apply]
    rfl

/-- Field `1` of the up's product. -/
theorem up_field1 (l : Fin 1728) : val_main_v63 (F := Ideal) c3 w (ix3 b r l) = dot 1 (fun k => c3 (ix3 b r k)) (fun k => w (ix2 k l)) := by
  rw [val_main_v63_apply]
  refine dot_field 1 c3 w _ _ (fun j => ?_) (fun j => ?_) b r l
  · rw [val_main_v45_apply, val_main_v44_apply]
    rfl
  · simp only [val_main_v62_apply, val_main_v61_apply, val_main_v60_apply, val_main_v59_apply, val_main_v58_apply, val_main_v57_apply, val_main_v56_apply, val_main_v55_apply, val_main_c_14_apply, val_main_c_15_apply, val_main_c_16_apply]
    rfl

/-- Field `2` of the up's product. -/
theorem up_field2 (l : Fin 1728) : val_main_v72 (F := Ideal) c3 w (ix3 b r l) = dot 2 (fun k => c3 (ix3 b r k)) (fun k => w (ix2 k l)) := by
  rw [val_main_v72_apply]
  refine dot_field 2 c3 w _ _ (fun j => ?_) (fun j => ?_) b r l
  · rw [val_main_v45_apply, val_main_v44_apply]
    rfl
  · simp only [val_main_v71_apply, val_main_v70_apply, val_main_v69_apply, val_main_v68_apply, val_main_v67_apply, val_main_v66_apply, val_main_v65_apply, val_main_v64_apply, val_main_c_17_apply, val_main_c_18_apply, val_main_c_19_apply]
    rfl

/-- Field `3` of the up's product. -/
theorem up_field3 (l : Fin 1728) : val_main_v81 (F := Ideal) c3 w (ix3 b r l) = dot 3 (fun k => c3 (ix3 b r k)) (fun k => w (ix2 k l)) := by
  rw [val_main_v81_apply]
  refine dot_field 3 c3 w _ _ (fun j => ?_) (fun j => ?_) b r l
  · rw [val_main_v45_apply, val_main_v44_apply]
    rfl
  · simp only [val_main_v80_apply, val_main_v79_apply, val_main_v78_apply, val_main_v77_apply, val_main_v76_apply, val_main_v75_apply, val_main_v74_apply, val_main_v73_apply, val_main_c_20_apply, val_main_c_21_apply, val_main_c_22_apply]
    rfl

/-- The up: the product scaled. -/
theorem up_eq : val_main_v87 (F := Ideal) s c3 a3 w (ix3 b r n) = lin c3 a3 w s b r n.val := by
  rw [val_main_v87_apply, val_main_v86_apply, val_main_v85_apply, val_main_v84_apply, val_main_v83_apply]
  unfold val_main_v82 lin
  have hc := concat_apply (val_main_v54 c3 w) (val_main_v63 c3 w) (val_main_v72 c3 w) (val_main_v81 c3 w)
    concatenates_S3x512x1728_S3x512x1728_S3x512x1728_S3x512x1728_S3x512x6912_d2 b r n
    (fun f l => dot f (fun k => c3 (ix3 b r k)) (fun k => w (ix2 k l))) (up_field0 c3 w b r) (up_field1 c3 w b r) (up_field2 c3 w b r) (up_field3 c3 w b r)
  have ea : idx_main_v83 (idx_main_v84 (ix3 b r n)) = ix2 b r := by
    funext a
    match a with
    | ⟨0, _⟩ => rfl
    | ⟨1, _⟩ => rfl
  have es : idx_main_v86 (ix3 b r n) = ix0 := funext fun a => a.elim0
  rw [ea, es]
  exact congrArg (fun d : EReal => d * a3 (ix2 b r) * s ix0) hc

end Products

/-- A rounded number held to -127 .. 127 is the same code through 32 bits as directly. -/
theorem code_trunc (x : EReal) : (FloatOps.fptosi (F := Ideal) (φ := .f32) 32 (min (Ideal.ofBits .f32 0x42FE0000#32)
      (max (Ideal.ofBits .f32 0xC2FE0000#32) x)) : BitVec 32).setWidth 8
    = FloatOps.fptosi (F := Ideal) (φ := .f32) 8 (min (Ideal.ofBits .f32 0x42FE0000#32) (max (Ideal.ofBits .f32 0xC2FE0000#32) x)) := by
  have e1 : Ideal.ofBits .f32 0x42FE0000#32 = ((127 : ℝ) : EReal) := by
    simp [Ideal.ofBits, Ideal.ieee, -EReal.coe_mul]
    norm_num
  have e2 : Ideal.ofBits .f32 0xC2FE0000#32 = ((-127 : ℝ) : EReal) := by
    simp [Ideal.ofBits, Ideal.ieee, -EReal.coe_mul, -EReal.coe_neg]
    norm_num
  rw [e1, e2]
  obtain ⟨y, hy, h1, h2⟩ : ∃ y : ℝ, min ((127 : ℝ) : EReal) (max ((-127 : ℝ) : EReal) x) = (y : EReal) ∧ -127 ≤ y ∧ y ≤ 127 := by
    induction x with
    | bot => exact ⟨-127, by rw [max_eq_left bot_le, ← EReal.coe_strictMono.monotone.map_min]; norm_num, by norm_num, by norm_num⟩
    | top => exact ⟨127, by rw [max_eq_right le_top, min_eq_left le_top], by norm_num, by norm_num⟩
    | coe x =>
      refine ⟨min 127 (max (-127) x), ?_, le_min (by norm_num) (le_max_left _ _), min_le_left _ _⟩
      rw [EReal.coe_strictMono.monotone.map_min, EReal.coe_strictMono.monotone.map_max]
  rw [hy]
  show (BitVec.ofInt 32 (max (-(2 ^ 31 : ℕ)) (min ((2 ^ 31 : ℕ) - 1) (if 0 ≤ y then ⌊y⌋ else ⌈y⌉)))).setWidth 8
    = BitVec.ofInt 8 (max (-(2 ^ 7 : ℕ)) (min ((2 ^ 7 : ℕ) - 1) (if 0 ≤ y then ⌊y⌋ else ⌈y⌉)))
  generalize ht : (if 0 ≤ y then ⌊y⌋ else ⌈y⌉) = t
  have hl : -127 ≤ t := by
    rw [← ht]
    split_ifs
    · exact Int.le_floor.mpr (by push_cast; exact h1)
    · exact Int.le_ceil_iff.mpr (by push_cast; linarith)
  have hu : t ≤ 127 := by
    rw [← ht]
    split_ifs
    · exact Int.floor_le_iff.mpr (by push_cast; linarith)
    · exact Int.ceil_le.mpr (by push_cast; exact h2)
  have c1 : max (-((2 ^ 31 : ℕ) : ℤ)) (min (((2 ^ 31 : ℕ) : ℤ) - 1) t) = t := by norm_num; omega
  have c2 : max (-((2 ^ 7 : ℕ) : ℤ)) (min (((2 ^ 7 : ℕ) : ℤ) - 1) t) = t := by norm_num; omega
  rw [c1, c2]
  have h : ∀ t : Fin 255, (BitVec.ofInt 32 ((t.val : ℤ) - 127)).setWidth 8 = BitVec.ofInt 8 ((t.val : ℤ) - 127) := by decide +kernel
  have := h ⟨(t + 127).toNat, by omega⟩
  rwa [show (((t + 127).toNat : ℕ) : ℤ) - 127 = t by omega] at this

section Results

variable (sg su : Vec Ideal S_ .f32) (c3 : Vec Ideal S3x512x2560 .i8) (a3 : Vec Ideal S3x512 .f32)
  (wg wu : Vec Ideal S2560x1728 .i8) (g : Vec Ideal S6912 .f32) (b : Fin 3) (r : Fin 512) (n : Fin 6912)

theorem zero_bits : Ideal.ofBits .f32 0x00000000#32 = 0 := by simp

theorem row_eq : val_main_v90 (F := Ideal) sg su c3 a3 wg wu (ix3 b r n) = row sg su c3 a3 wg wu b r n := by
  rw [val_main_v90_apply, val_main_v89_apply, val_main_v88_apply, gate_eq, up_eq, val_main_call0_v0_apply, val_main_call0_cst_apply]
  unfold row
  exact congrArg (fun z => max (lin c3 a3 wg sg b r n.val) z * max (lin c3 a3 wg sg b r n.val) z * lin c3 a3 wu su b r n.val) zero_bits

theorem rstd_eq : val_main_v97 (F := Ideal) sg su c3 a3 wg wu (ix2 b r) = rstds sg su c3 a3 wg wu (ix2 b r) := by
  rw [val_main_v97_apply, val_main_v96_apply, val_main_v95_apply, val_main_cst_24_apply, val_main_v94_apply, val_main_v93_apply,
    val_main_cst_23_apply, val_main_v92_apply, val_main_cst_apply]
  have hs : ∀ k : Fin 6912, val_main_v91 (F := Ideal) sg su c3 a3 wg wu (idx_main_v92 (ix2 b r) k) = row sg su c3 a3 wg wu b r k * row sg su c3 a3 wg wu b r k := by
    intro k
    have e : idx_main_v92 (ix2 b r) k = ix3 b r k := by
      funext a
      match a with
      | ⟨0, _⟩ => rfl
      | ⟨1, _⟩ => rfl
      | ⟨2, _⟩ => rfl
    rw [e, val_main_v91_apply, row_eq]
    rfl
  simp only [hs]
  show Ideal.rsqrt (Ideal.div (Ideal.ofBits .f32 0x00000000#32 + _) _ + _) = _
  rw [zero_bits, zero_add]
  rfl

theorem rows_eq : val_main_v103 (F := Ideal) sg su c3 a3 wg wu g (ix3 b r n) = rows sg su c3 a3 wg wu g b r n := by
  rw [val_main_v103_apply, val_main_v102_apply, val_main_v101_apply, val_main_v100_apply, val_main_v99_apply, val_main_v98_apply, row_eq]
  have e1 : idx_main_v98 (idx_main_v99 (ix3 b r n)) = ix2 b r := by
    funext a
    match a with
    | ⟨0, _⟩ => rfl
    | ⟨1, _⟩ => rfl
  have e2 : idx_main_v101 (idx_main_v102 (ix3 b r n)) = ix1 n := by
    funext a
    match a with
    | ⟨0, _⟩ => rfl
  rw [e1, e2, rstd_eq]
  rfl

theorem amax_eq : val_main_v105 (F := Ideal) sg su c3 a3 wg wu g (ix2 b r) = amax (rows sg su c3 a3 wg wu g b r) := by
  unfold val_main_v105 amax
  have h : ∀ k : Fin 6912, val_main_v104 (F := Ideal) sg su c3 a3 wg wu g (ix3 b r k) = FloatOps.absf (F := Ideal) (φ := .f32) (rows sg su c3 a3 wg wu g b r k) := by
    intro k
    rw [val_main_v104_apply, rows_eq]
    rfl
  generalize val_main_v104 (F := Ideal) sg su c3 a3 wg wu g = y at h ⊢
  unfold val_main_cst_25
  pointwise
  simp only [h]

theorem scale_eq : val_main_v110 (F := Ideal) sg su c3 a3 wg wu g (ix2 b r) = scales sg su c3 a3 wg wu g (ix2 b r) := by
  rw [val_main_v110_apply, val_main_v107_apply, val_main_v109_apply, amax_eq, val_main_v106_apply, val_main_v108_apply, val_main_cst_26_apply, val_main_cst_27_apply,
    val_main_call1_v1_apply, val_main_call1_v0_apply, val_main_cst_28_apply]
  unfold scales scale
  generalize e : amax (rows sg su c3 a3 wg wu g b r) = A
  show Scalar.select (BitVec.ofBool (decide (A = Ideal.ofBits .f32 0x00000000#32))) (Ideal.ofBits .f32 0x3F800000#32) (Ideal.div A (Ideal.ofBits .f32 0x42FE0000#32))
    = if amax (rows sg su c3 a3 wg wu g b r) = 0 then 1 else Ideal.div (amax (rows sg su c3 a3 wg wu g b r)) (Ideal.ofBits .f32 0x42FE0000#32)
  have h1 : Ideal.ofBits .f32 0x3F800000#32 = 1 := by simp [Ideal.ofBits, Ideal.ieee, -EReal.coe_mul]; norm_num
  rw [e, zero_bits, h1]
  by_cases h : A = 0 <;> simp [h, Scalar.select]

theorem code_eq : val_main_v117 (F := Ideal) sg su c3 a3 wg wu g (ix3 b r n) = codes sg su c3 a3 wg wu g (ix3 b r n) := by
  rw [val_main_v117_apply, val_main_v116_apply, val_main_v115_apply, val_main_call3_v2_apply, val_main_v114_apply, val_main_v113_apply, val_main_v112_apply,
    val_main_v111_apply, rows_eq, val_main_call3_v4_apply, val_main_call3_v3_apply, val_main_cst_30_apply, val_main_call3_v1_apply, val_main_call3_v0_apply, val_main_cst_29_apply]
  have e1 : idx_main_v111 (idx_main_v112 (ix3 b r n)) = ix2 b r := by
    funext a
    match a with
    | ⟨0, _⟩ => rfl
    | ⟨1, _⟩ => rfl
  rw [e1, scale_eq]
  have ec : codes sg su c3 a3 wg wu g (ix3 b r n) = code (rows sg su c3 a3 wg wu g b r) n := rfl
  have es : scales sg su c3 a3 wg wu g (ix2 b r) = scale (rows sg su c3 a3 wg wu g b r) := rfl
  rw [ec, es]
  unfold code
  generalize rows sg su c3 a3 wg wu g b r n = x
  generalize scale (rows sg su c3 a3 wg wu g b r) = a
  generalize hq : Ideal.liftRound Ideal.roundHalfEven (Ideal.div x a) = q
  have hq' : FloatOps.hostUnary (F := Ideal) (φ := .f32) .roundeven (FloatOps.hostDivf (F := Ideal) (φ := .f32) x a) = q := hq
  rw [hq']
  exact code_trunc q

end Results

end Cert.Proof.GateUpRef

end
-- ==== Proof.GateUpFinal.lean ====
/- The call `gateup`: the three arrays its run leaves are the reference's. -/
module

public import proofs.«01_k».proof.Proof.GateUpFrame
public import proofs.«01_k».proof.Proof.GateUpRef
public import proofs.«01_k».proof.Proof.Gen.GateUpReferenceIdeal.Run
public import proofs.«01_k».proof.Proof.Gen.GateUpReferenceIdeal.Read
public import proofs.«01_k».proof.Defs
public import Idealize.ShloMosaic.Lib.Pipeline.ValueKit
public import Idealize.ShloMosaic.Lib.Pipeline.ArrRel
public import Idealize.ShloMosaic.Lib.Claim

@[expose] public section

set_option maxRecDepth 16384

noncomputable section

namespace Cert.Proof.GateUpFinal

open Idealize.ShloMosaic Idealize.ShloMosaic.Pipeline Idealize.ShloMosaic.TcCoe Idealize.SL.Sem Cert.GateUpIdeal Cert.GateUpIdeal.Gen
open Cert.Proof.Ternary Cert.Proof.RowQuant Cert.Proof.GateUpPoint Cert.Proof.GateUpFrame

variable (m : (ℓ : Loc nD τ sig) → Buf (Elt Ideal) ℓ)

/-- The windows' block indices at every grid point. -/
theorem idx : ∀ t : Fin cfg0.N, win0_0.index t = ![0] ∧ win0_1.index t = ![(grid0.coords t 0).val, 0, 0] ∧ win0_2.index t = ![0, 0]
    ∧ win0_3.index t = ![0, 0] ∧ win0_4.index t = ![0, 0] ∧ win0_5.index t = ![0, 0] ∧ win0_6.index t = ![0, 0]
    ∧ win0_7.index t = ![(grid0.coords t 0).val, 0, 0] ∧ win0_8.index t = ![0, 0] :=
  (by decide +kernel : ∀ t : Fin grid0.N, _)

/-! ## The arrays made before the call -/

/-- The two weight scales, stacked. -/
theorem v4_eq (c : Dev nD) : V m c main_v4 = concatenate S2 0 [⟨S1, (broadcastInDim S1 ![] bcast_S_S1 (m ((c : Thread nD τ).loc main_arg0)) : FVec Ideal S1 .f32)⟩,
      ⟨S1, (broadcastInDim S1 ![] bcast_S_S1 (m ((c : Thread nD τ).loc main_arg1)) : FVec Ideal S1 .f32)⟩] concatenates_S1_S1_S2_d0 := by
  unfold V hostOps0
  after_results_simp
  refine congrArg₂ (fun x y : FVec Ideal S1 .f32 => concatenate S2 0 [⟨S1, x⟩, ⟨S1, y⟩] concatenates_S1_S1_S2_d0) ?_ ?_ <;> after_results_simp

theorem v4_apply0 (c : Dev nD) : V m c main_v4 (ix1 0) = m ((c : Thread nD τ).loc main_arg0) ix0 := by
  rw [v4_eq]
  pointwise

theorem v4_apply1 (c : Dev nD) : V m c main_v4 (ix1 1) = m ((c : Thread nD τ).loc main_arg1) ix0 := by
  rw [v4_eq]
  pointwise

/-- The gate's weights, transposed. -/
theorem v5_apply (c : Dev nD) (p : Fin 1728) (l : Fin 2560) : V m c main_v5 (ix2 p l) = m ((c : Thread nD τ).loc main_arg4) (ix2 l p) := by
  have : V m c main_v5 = transpose S1728x2560 [1, 0] (m ((c : Thread nD τ).loc main_arg4)) transposes_S2560x1728_S1728x2560_1_0 := by
    unfold V hostOps0
    after_results_simp
  rw [this]
  pointwise

/-- The up's weights, transposed. -/
theorem v6_apply (c : Dev nD) (p : Fin 1728) (l : Fin 2560) : V m c main_v6 (ix2 p l) = m ((c : Thread nD τ).loc main_arg5) (ix2 l p) := by
  have : V m c main_v6 = transpose S1728x2560 [1, 0] (m ((c : Thread nD τ).loc main_arg5)) transposes_S2560x1728_S1728x2560_1_0 := by
    unfold V hostOps0
    after_results_simp
  rw [this]
  pointwise

/-- The gains, as one row. -/
theorem v7_apply (c : Dev nD) (n : Fin 6912) : V m c main_v7 (ix2 0 n) = m ((c : Thread nD τ).loc main_arg6) (ix1 n) := by
  have : V m c main_v7 = broadcastInDim S1x6912 ![1] bcast_S6912_S1x6912_1 (m ((c : Thread nD τ).loc main_arg6)) := by
    unfold V hostOps0
    after_results_simp
  rw [this]
  pointwise

/-! ## The blocks -/

section Blocks

variable (c : Dev nD) (t : Fin cfg0.N)

theorem iblk0 (a : Fin 2) : (iblk m c 0 t : Vec Ideal S2 .f32) (ix1 a) = V m c main_v4 (ix1 a) := by
  obtain ⟨e0, -⟩ := idx t
  blk_simp [iblk]
  exact congrArg _ (by blk_ext [e0])

theorem iblk1 (r : Fin 512) (k : Fin 2560) : (iblk m c 1 t : Vec Ideal S1x512x2560 .i8) (ix3 0 r k) = m ((c : Thread nD τ).loc main_arg2) (ix3 (grid0.coords t 0) r k) := by
  obtain ⟨-, e1, -⟩ := idx t
  blk_simp [iblk]
  rw [V_main_arg2]
  exact congrArg _ (by blk_ext [e1])

theorem iblk2 (b : Fin 3) (r : Fin 512) : (iblk m c 2 t : Vec Ideal S3x512 .f32) (ix2 b r) = m ((c : Thread nD τ).loc main_arg3) (ix2 b r) := by
  obtain ⟨-, -, e2, -⟩ := idx t
  blk_simp [iblk]
  rw [V_main_arg3]
  exact congrArg _ (by blk_ext [e2])

theorem iblk3 (p : Fin 1728) (l : Fin 2560) : (iblk m c 3 t : Vec Ideal S1728x2560 .i8) (ix2 p l) = m ((c : Thread nD τ).loc main_arg4) (ix2 l p) := by
  obtain ⟨-, -, -, e3, -⟩ := idx t
  refine Eq.trans ?_ (v5_apply m c p l)
  blk_simp [iblk]
  exact congrArg _ (by blk_ext [e3])

theorem iblk4 (p : Fin 1728) (l : Fin 2560) : (iblk m c 4 t : Vec Ideal S1728x2560 .i8) (ix2 p l) = m ((c : Thread nD τ).loc main_arg5) (ix2 l p) := by
  obtain ⟨-, -, -, -, e4, -⟩ := idx t
  refine Eq.trans ?_ (v6_apply m c p l)
  blk_simp [iblk]
  exact congrArg _ (by blk_ext [e4])

theorem iblk5 (n : Fin 6912) : (iblk m c 5 t : Vec Ideal S1x6912 .f32) (ix2 0 n) = m ((c : Thread nD τ).loc main_arg6) (ix1 n) := by
  obtain ⟨-, -, -, -, -, e5, -⟩ := idx t
  refine Eq.trans ?_ (v7_apply m c n)
  blk_simp [iblk]
  exact congrArg _ (by blk_ext [e5])

/-- The rows a point works on, as a function of the arguments. -/
abbrev arow (b : Fin 3) (r : Fin 512) (n : Fin 6912) : EReal :=
  GateUpRef.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b r n

/-- The rows a point computes are the reference's. -/
theorem TT_eq (r : Fin 512) : (fun n : Fin 6912 => TT m c t r n.val) = arow m c (grid0.coords t 0) r := by
  funext n
  unfold TT GateUpPoint.T GateUpTile.M GateUpTile.lin arow GateUpRef.row GateUpRef.lin
  have e0 : (iblk m c 0 t : Vec Ideal S2 .f32) (ix1 0) = m ((c : Thread nD τ).loc main_arg0) ix0 := (iblk0 m c t 0).trans (v4_apply0 m c)
  have e1 : (iblk m c 0 t : Vec Ideal S2 .f32) (ix1 1) = m ((c : Thread nD τ).loc main_arg1) ix0 := (iblk0 m c t 1).trans (v4_apply1 m c)
  have e2 : (iblk m c 2 t : Vec Ideal S3x512 .f32) (ix2 (grid0.coords t 0) r) = m ((c : Thread nD τ).loc main_arg3) (ix2 (grid0.coords t 0) r) :=
    iblk2 m c t _ r
  simp only [iblk1, iblk3, iblk4, e0, e1, e2]

theorem gains_eq : (fun n : Fin 6912 => (iblk m c 5 t : Vec Ideal S1x6912 .f32) (ix2 0 n)) = fun n => m ((c : Thread nD τ).loc main_arg6) (ix1 n) :=
  funext fun n => iblk5 m c t n

end Blocks

theorem coords_pt (b : Fin 3) : grid0.coords (pt b) 0 = b := Fin.ext (coords_val (pt b))

theorem W6_eq (c : Dev nD) (b : Fin 3) (q : Fin 512) : W6 m c b q
    = GateUpRef.rstds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 b q) := by
  unfold W6
  rw [TT_eq, coords_pt]
  rfl

theorem W8_eq (c : Dev nD) (b : Fin 3) (q : Fin 512) : W8 m c b q
    = GateUpRef.scales (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 b q) := by
  unfold W8
  rw [TT_eq, gains_eq, coords_pt]
  rfl

theorem G8_eq (c : Dev nD) (t : Fin cfg0.N) (r : Fin 512) (n : Fin 6912) : G8 (TT m c t) (iblk m c 5 t) (ix3 0 r n)
    = GateUpRef.codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix3 (grid0.coords t 0) r n) := by
  show code (normed 0x45D80000#32 (fun n : Fin 6912 => TT m c t r n.val) fun n => (iblk m c 5 t : Vec Ideal S1x6912 .f32) (ix2 0 n)) n = _
  rw [TT_eq, gains_eq]
  rfl

/-! ## The arrays at the end -/

section Final

variable (c : Dev nD) (after : (w : Fin cfg0.W) → Fin cfg0.N → (cfg0.win w).block.Idx → Elt Ideal (cfg0.win w).elt)
  (ha : ∀ w u, (cfg0.win w).flush u = true → (rdat m c).Leaves w u (after w u))

include ha

theorem rel (w : Fin cfg0.W) (hw : forgets0 w = true) (u : Fin cfg0.N) (hu : (cfg0.win w).flush u = true) : Rl m c w u (after w u) :=
  Dat.toRRel_leaves _ hw (ha w u hu)

/-- The reciprocal roots, all of them written out after the last point. -/
theorem final6 : ((rdat m c).withAfter after).arrAt 6 cfg0.N
    = GateUpRef.rstds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine ((rdat m c).withAfter after).arrAt_eq_of_covers 6 _ (by decide +kernel) fun t hf y => ?_
  blk_simp
  have hr : ∀ (b : Fin 3) (q : Fin 512), b.val ≤ t.val → (after 6 t : S3x512.Idx → EReal) (ix2 b q) = W6 m c b q := rel m c after ha 6 rfl t hf
  have h2 : t.val = 2 := by have := (flush0_6 t).mp hf; have h3 : t.val < 3 := t.isLt; omega
  obtain ⟨-, -, -, -, -, -, e6, -, -⟩ := idx t
  idx_vars y
  have h6 : (win0_6.blk t).view.emb (ix2 y0 y1) = ix2 y0 y1 := by blk_ext [e6]
  rw [h6, ← W6_eq]
  exact hr y0 y1 (by have := y0.isLt; omega)

/-- The scales, all of them written out after the last point. -/
theorem final8 : ((rdat m c).withAfter after).arrAt 8 cfg0.N
    = GateUpRef.scales (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine ((rdat m c).withAfter after).arrAt_eq_of_covers 8 _ (by decide +kernel) fun t hf y => ?_
  blk_simp
  have hr : ∀ (b : Fin 3) (q : Fin 512), b.val ≤ t.val → (after 8 t : S3x512.Idx → EReal) (ix2 b q) = W8 m c b q := rel m c after ha 8 rfl t hf
  have h2 : t.val = 2 := by have := (flush0_8 t).mp hf; have h3 : t.val < 3 := t.isLt; omega
  obtain ⟨-, -, -, -, -, -, -, -, e8⟩ := idx t
  idx_vars y
  have h8 : (win0_8.blk t).view.emb (ix2 y0 y1) = ix2 y0 y1 := by blk_ext [e8]
  rw [h8, ← W8_eq]
  exact hr y0 y1 (by have := y0.isLt; omega)

/-- The codes, written out slab by slab. -/
theorem final7 : ((rdat m c).withAfter after).arrAt 7 cfg0.N
    = GateUpRef.codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine ((rdat m c).withAfter after).arrAt_eq_of_covers 7 _ (by decide +kernel) fun t hf y => ?_
  blk_simp
  have hr : ∀ y : S1x512x6912.Idx, (after 7 t : S1x512x6912.Idx → BitVec 8) y = G8 (TT m c t) (iblk m c 5 t) y := rel m c after ha 7 rfl t hf
  obtain ⟨-, -, -, -, -, -, -, e7, -⟩ := idx t
  idx_vars y
  have h7 : (win0_7.blk t).view.emb (ix3 y0 y1 y2) = ix3 (grid0.coords t 0) y1 y2 := by blk_ext [e7]
  have hy : (ix3 y0 y1 y2 : S1x512x6912.Idx) = ix3 0 y1 y2 := by rw [Subsingleton.elim y0 0]
  rw [h7]
  exact (hr _).trans ((congrArg _ hy).trans (G8_eq m c t y1 y2))

end Final

/-- What the run leaves in the three result arrays. -/
theorem run_values (g : Dev nD → PrngReg) : θ_run defs (onTc (τ := τ) (main (F := Ideal))) ⟨m, fun _ => 0, g⟩ (fun r => ∀ c : Dev nD,
      r.2.mem ((c.tc : Thread nD τ).loc main_v8_0) = GateUpRef.rstds (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_v8_1) = GateUpRef.codes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_v8_2) = GateUpRef.scales (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))) :=
  (θ_run defs _ _).mono (fun r h c => by
    obtain ⟨after, ha, he⟩ := RDat.FramePost.exists_exact h c
    exact ⟨(he 6).trans (final6 m c after ha), (he 7).trans (final7 m c after ha), (he 8).trans (final8 m c after ha)⟩) (run_main m g)

/-- The kernel and the reference leave the same three arrays. -/
theorem algebraic : Cert.algebraic_GateUpIdeal_GateUpReferenceIdeal := by
  intro m g m' g' _ hagree
  refine ⟨fun c => GateUpRef.rstds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    fun c => GateUpRef.codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)),
    fun c => GateUpRef.scales (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)), ?_, ?_⟩
  · exact (θ_run _ _ _).mono (fun r h c => ⟨(h.1 c).1, (h.1 c).2.1, (h.1 c).2.2, h.2 c⟩) (θ_run_and (run_values m g) (unchanged m g))
  · refine (θ_run _ _ _).mono (fun r h c => ?_) (Cert.GateUpReferenceIdeal.Value.run m' g')
    obtain ⟨a0, a1, a2, a3, a4, a5, a6⟩ := hagree c
    refine ⟨((h c).1.trans (Cert.GateUpReferenceIdeal.Read.val_main_v97_eq ..)).trans ?_,
      ((h c).2.1.trans (Cert.GateUpReferenceIdeal.Read.val_main_v117_eq ..)).trans ?_,
      ((h c).2.2.1.trans (Cert.GateUpReferenceIdeal.Read.val_main_v110_eq ..)).trans ?_, (h c).2.2.2⟩
    · rw [a0, a1, a2, a3, a4, a5]
      funext j
      idx_vars j
      exact GateUpRef.rstd_eq ..
    · rw [a0, a1, a2, a3, a4, a5, a6]
      funext j
      idx_vars j
      exact GateUpRef.code_eq ..
    · rw [a0, a1, a2, a3, a4, a5, a6]
      funext j
      idx_vars j
      exact GateUpRef.scale_eq ..

end Cert.Proof.GateUpFinal

end
-- ==== Proof.lean ====
module

public import proofs.«01_k».proof.Proof.Gen.GateUp
public import proofs.«01_k».proof.Proof.Gen.GateUpIdeal
public import proofs.«01_k».proof.Proof.Gen.GateUpReferenceIdeal
public import proofs.«01_k».proof.Proof.Gen.GateUp.Frame
public import proofs.«01_k».proof.Proof.Gen.GateUp.Loops
public import proofs.«01_k».proof.Proof.Gen.GateUp.Skeleton
public import proofs.«01_k».proof.Proof.Gen.GateUpIdeal.Frame
public import proofs.«01_k».proof.Proof.Gen.GateUpIdeal.Loops
public import proofs.«01_k».proof.Proof.Gen.GateUpReferenceIdeal.Run
public import proofs.«01_k».proof.Proof.Gen.GateUpReferenceIdeal.Read
public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.DownReferenceIdeal
public import proofs.«01_k».proof.Proof.DownFinal
public import proofs.«01_k».proof.Proof.GateUpBits
public import proofs.«01_k».proof.Proof.GateUpFinal
public import proofs.«01_k».proof.Proof.GateUpRun
public import proofs.«01_k».proof.Proof.GateUpQuant
public import proofs.«01_k».proof.Proof.GateUpTile
public import Idealize.ShloMosaic.Adequacy
public import Idealize.ShloMosaic.Init

@[expose] public section

noncomputable section

namespace Cert.Proof

open Idealize.ShloMosaic Idealize.SL.Sem Cert.Down

/-- The reference runs, ends with every semaphore at zero and leaves its arguments as they were. -/
theorem quiescent_DownReference : Cert.quiescent_DownReferenceIdeal := fun m g _ =>
  (θ_run _ _ _).mono (fun r h => ⟨fun c => (h c).2, sem_eq_zero_of_no_sems (by decide) r.2⟩) (Cert.DownReferenceIdeal.Value.run m g)

/-- The reference runs, ends with every semaphore at zero and leaves its arguments as they were. -/
theorem quiescent_GateUpReference : Cert.quiescent_GateUpReferenceIdeal := fun m g _ =>
  (θ_run _ _ _).mono (fun r h => ⟨fun c => (h c).2.2.2, sem_eq_zero_of_no_sems (by decide) r.2⟩) (Cert.GateUpReferenceIdeal.Value.run m g)

theorem claim : Cert.Claim := ⟨Cert.GateUp.Gen.facts, Cert.GateUpIdeal.Gen.facts, Cert.GateUpReferenceIdeal.Gen.facts,
  Cert.Down.Gen.facts, Cert.DownIdeal.Gen.facts, Cert.DownReferenceIdeal.Gen.facts,
  fun m g _ => Cert.Proof.GateUpBits.frame m g, fun m g _ => Cert.Proof.GateUpFrame.frame m g, quiescent_GateUpReference,
  fun m g _ => Cert.Down.Gen.frame m g, fun m g _ => Cert.DownIdeal.Gen.frame m g, quiescent_DownReference,
  trivial, Cert.Proof.GateUpFinal.algebraic, trivial, Cert.Proof.DownValue.algebraic⟩

end Cert.Proof

end
